-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x50 : Shape := ⟨2, ![4096, 50]⟩
abbrev S100000x64 : Shape := ⟨2, ![100000, 64]⟩
abbrev S64x50 : Shape := ⟨2, ![64, 50]⟩
abbrev S50 : Shape := ⟨1, ![50]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x64 .f32) (main_arg2 : FVec F S64x50 .f32) (main_arg3 : FVec F S50 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x64 : Shape := ⟨2, ![100000, 64]⟩
abbrev S64x50 : Shape := ⟨2, ![64, 50]⟩
abbrev S50 : Shape := ⟨1, ![50]⟩
abbrev S_ : Shape := ⟨0, ![]⟩
abbrev S64x128 : Shape := ⟨2, ![64, 128]⟩
abbrev S128 : Shape := ⟨1, ![128]⟩
abbrev S1x128 : Shape := ⟨2, ![1, 128]⟩
abbrev S64x100000 : Shape := ⟨2, ![64, 100000]⟩
abbrev S100000x128 : Shape := ⟨2, ![100000, 128]⟩
abbrev S64x12800 : Shape := ⟨2, ![64, 12800]⟩
abbrev S12800x128 : Shape := ⟨2, ![12800, 128]⟩
abbrev S4096x128 : Shape := ⟨2, ![4096, 128]⟩
abbrev S4096x50x128 : Shape := ⟨3, ![4096, 50, 128]⟩
abbrev S128x128 : Shape := ⟨2, ![128, 128]⟩
abbrev S50x128 : Shape := ⟨2, ![50, 128]⟩
abbrev S1x50 : Shape := ⟨2, ![1, 50]⟩
abbrev S1x50x128 : Shape := ⟨3, ![1, 50, 128]⟩
abbrev S4096x50x50 : Shape := ⟨3, ![4096, 50, 50]⟩

abbrev nBuf : Table → Nat
  | .hbm => 18
  | .local .tc .vmem => 6
  | .local .scVector .vmem => 9
  | _ => 0

abbrev bufTy : (tb : Table) → Fin (nBuf tb) → BufTy
  | .hbm, ⟨0, _⟩ => ⟨S4096x50, .i32⟩
  | .hbm, ⟨1, _⟩ => ⟨S100000x64, .f32⟩
  | .hbm, ⟨2, _⟩ => ⟨S64x50, .f32⟩
  | .hbm, ⟨3, _⟩ => ⟨S50, .f32⟩
  | .hbm, ⟨4, _⟩ => ⟨S_, .i32⟩
  | .hbm, ⟨5, _⟩ => ⟨S_, .f32⟩
  | .hbm, ⟨6, _⟩ => ⟨S64x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S64x100000, .f32⟩
  | .hbm, ⟨12, _⟩ => ⟨S100000x128, .f32⟩
  | .hbm, ⟨13, _⟩ => ⟨S_, .i32⟩
  | .hbm, ⟨14, _⟩ => ⟨S_, .i32⟩
  | .hbm, ⟨15, _⟩ => ⟨S4096x128, .i32⟩
  | .hbm, ⟨16, _⟩ => ⟨S4096x50x128, .f32⟩
  | .hbm, ⟨17, _⟩ => ⟨S4096x50x50, .f32⟩
  | .local .tc .vmem, ⟨0, _⟩ => ⟨S64x12800, .f32⟩
  | .local .tc .vmem, ⟨1, _⟩ => ⟨S64x12800, .f32⟩
  | .local .tc .vmem, ⟨2, _⟩ => ⟨S64x128, .f32⟩
  | .local .tc .vmem, ⟨3, _⟩ => ⟨S1x128, .f32⟩
  | .local .tc .vmem, ⟨4, _⟩ => ⟨S12800x128, .f32⟩
  | .local .tc .vmem, ⟨5, _⟩ => ⟨S12800x128, .f32⟩
  | .local .scVector .vmem, ⟨0, _⟩ => ⟨S128x128, .i32⟩
  | .local .scVector .vmem, ⟨1, _⟩ => ⟨S50x128, .f32⟩
  | .local .scVector .vmem, ⟨2, _⟩ => ⟨S50x128, .f32⟩
  | .local .scVector .vmem, ⟨3, _⟩ => ⟨S50x128, .f32⟩
  | .local .scVector .vmem, ⟨4, _⟩ => ⟨S50x128, .f32⟩
  | .local .scVector .vmem, ⟨5, _⟩ => ⟨S50x128, .f32⟩
  | .local .scVector .vmem, ⟨6, _⟩ => ⟨S50x128, .f32⟩
  | .local .scVector .vmem, ⟨7, _⟩ => ⟨S50x128, .f32⟩
  | .local .scVector .vmem, ⟨8, _⟩ => ⟨S50x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v4_scv : Ref sig .scVector := ⟨.hbm, 12, rfl⟩
abbrev main_v5_scv : Ref sig .scVector := ⟨.hbm, 15, rfl⟩
abbrev main_v6_scv : Ref sig .scVector := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12800x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_26_r0 : BitVec 32 := 0#32
  ![v2.toNat, 0]
@[reducible] def k1_t1_loop : Scf.Loop 32 :=
  let c0_i32_23 : BitVec 32 := 0#32
  let c16_i32 : BitVec 32 := 16#32
  let v24 : BitVec 32 := Scalar.addi c0_i32_23 c16_i32
  let c1_i32_24 : BitVec 32 := 1#32
  ⟨c0_i32_23, v24, c1_i32_24⟩
def k1_cond1 (k1_t1 : Fin k1_t1_loop.trips) : BitVec 1 :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c0_i32_26 : BitVec 32 := 0#32
  let v27 : BitVec 32 := Scalar.addi v26 c0_i32_26
  let c8_i32_27 : BitVec 32 := 8#32
  let v28 : BitVec 32 := Scalar.addi v27 c8_i32_27
  let c1_i32_28 : BitVec 32 := 1#32
  let v29 : BitVec 32 := Scalar.subi v28 c1_i32_28
  let c128_i32_29 : BitVec 32 := 128#32
  let v30 : BitVec 1 := Scalar.cmpi .slt v29 c128_i32_29
  let v31 : BitVec 32 := Scalar.extui v30
  let c0_i32_30 : BitVec 32 := 0#32
  let v32 : BitVec 1 := Scalar.cmpi .ne v31 c0_i32_30
  v32

def k1_off2 (k1_t1 : Fin k1_t1_loop.trips) : Fin 2 → Nat :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c0_i32_26 : BitVec 32 := 0#32
  let v27 : BitVec 32 := Scalar.addi v26 c0_i32_26
  let c8_i32_27 : BitVec 32 := 8#32
  let v28 : BitVec 32 := Scalar.addi v27 c8_i32_27
  let c1_i32_28 : BitVec 32 := 1#32
  let v29 : BitVec 32 := Scalar.subi v28 c1_i32_28
  let c0_i32_106 : BitVec 32 := 0#32
  ![v29.toNat, 0]
def k1_off3 (k1_t1 : Fin k1_t1_loop.trips) (c0_i32_31 : BitVec 32) : Fin 2 → Nat :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let v33 : BitVec 32 := Scalar.addi v26 c0_i32_31
  let c0_i32_32 : BitVec 32 := 0#32
  ![v33.toNat, 0]
def k1_off4 (i : grid1.Coords) (k1_t1 : Fin k1_t1_loop.trips) (c0_i32_35 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let v37 : BitVec 32 := Scalar.addi v2 v26
  let v38 : BitVec 32 := Scalar.addi v37 c0_i32_35
  let c0_i32_106_r1 : BitVec 32 := 0#32
  let c0_i32_107_r1 : BitVec 32 := 0#32
  ![v38.toNat, 0, 0]
def k1_cond2 (k1_t1 : Fin k1_t1_loop.trips) : BitVec 1 :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c1_i32_36 : BitVec 32 := 1#32
  let v39 : BitVec 32 := Scalar.addi v26 c1_i32_36
  let c8_i32_37 : BitVec 32 := 8#32
  let v40 : BitVec 32 := Scalar.addi v39 c8_i32_37
  let c1_i32_38 : BitVec 32 := 1#32
  let v41 : BitVec 32 := Scalar.subi v40 c1_i32_38
  let c128_i32_39 : BitVec 32 := 128#32
  let v42 : BitVec 1 := Scalar.cmpi .slt v41 c128_i32_39
  let v43 : BitVec 32 := Scalar.extui v42
  let c0_i32_40 : BitVec 32 := 0#32
  let v44 : BitVec 1 := Scalar.cmpi .ne v43 c0_i32_40
  v44

def k1_off5 (k1_t1 : Fin k1_t1_loop.trips) : Fin 2 → Nat :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c1_i32_36 : BitVec 32 := 1#32
  let v39 : BitVec 32 := Scalar.addi v26 c1_i32_36
  let c8_i32_37 : BitVec 32 := 8#32
  let v40 : BitVec 32 := Scalar.addi v39 c8_i32_37
  let c1_i32_38 : BitVec 32 := 1#32
  let v41 : BitVec 32 := Scalar.subi v40 c1_i32_38
  let c0_i32_106 : BitVec 32 := 0#32
  ![v41.toNat, 0]
def k1_cond3 (k1_t1 : Fin k1_t1_loop.trips) : BitVec 1 :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c2_i32_46 : BitVec 32 := 2#32
  let v51 : BitVec 32 := Scalar.addi v26 c2_i32_46
  let c8_i32_47 : BitVec 32 := 8#32
  let v52 : BitVec 32 := Scalar.addi v51 c8_i32_47
  let c1_i32_48 : BitVec 32 := 1#32
  let v53 : BitVec 32 := Scalar.subi v52 c1_i32_48
  let c128_i32_49 : BitVec 32 := 128#32
  let v54 : BitVec 1 := Scalar.cmpi .slt v53 c128_i32_49
  let v55 : BitVec 32 := Scalar.extui v54
  let c0_i32_50 : BitVec 32 := 0#32
  let v56 : BitVec 1 := Scalar.cmpi .ne v55 c0_i32_50
  v56

def k1_off6 (k1_t1 : Fin k1_t1_loop.trips) : Fin 2 → Nat :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c2_i32_46 : BitVec 32 := 2#32
  let v51 : BitVec 32 := Scalar.addi v26 c2_i32_46
  let c8_i32_47 : BitVec 32 := 8#32
  let v52 : BitVec 32 := Scalar.addi v51 c8_i32_47
  let c1_i32_48 : BitVec 32 := 1#32
  let v53 : BitVec 32 := Scalar.subi v52 c1_i32_48
  let c0_i32_106 : BitVec 32 := 0#32
  ![v53.toNat, 0]
def k1_cond4 (k1_t1 : Fin k1_t1_loop.trips) : BitVec 1 :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c3_i32_56 : BitVec 32 := 3#32
  let v63 : BitVec 32 := Scalar.addi v26 c3_i32_56
  let c8_i32_57 : BitVec 32 := 8#32
  let v64 : BitVec 32 := Scalar.addi v63 c8_i32_57
  let c1_i32_58 : BitVec 32 := 1#32
  let v65 : BitVec 32 := Scalar.subi v64 c1_i32_58
  let c128_i32_59 : BitVec 32 := 128#32
  let v66 : BitVec 1 := Scalar.cmpi .slt v65 c128_i32_59
  let v67 : BitVec 32 := Scalar.extui v66
  let c0_i32_60 : BitVec 32 := 0#32
  let v68 : BitVec 1 := Scalar.cmpi .ne v67 c0_i32_60
  v68

def k1_off7 (k1_t1 : Fin k1_t1_loop.trips) : Fin 2 → Nat :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c3_i32_56 : BitVec 32 := 3#32
  let v63 : BitVec 32 := Scalar.addi v26 c3_i32_56
  let c8_i32_57 : BitVec 32 := 8#32
  let v64 : BitVec 32 := Scalar.addi v63 c8_i32_57
  let c1_i32_58 : BitVec 32 := 1#32
  let v65 : BitVec 32 := Scalar.subi v64 c1_i32_58
  let c0_i32_106 : BitVec 32 := 0#32
  ![v65.toNat, 0]
def k1_cond5 (k1_t1 : Fin k1_t1_loop.trips) : BitVec 1 :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c4_i32_66 : BitVec 32 := 4#32
  let v75 : BitVec 32 := Scalar.addi v26 c4_i32_66
  let c8_i32_67 : BitVec 32 := 8#32
  let v76 : BitVec 32 := Scalar.addi v75 c8_i32_67
  let c1_i32_68 : BitVec 32 := 1#32
  let v77 : BitVec 32 := Scalar.subi v76 c1_i32_68
  let c128_i32_69 : BitVec 32 := 128#32
  let v78 : BitVec 1 := Scalar.cmpi .slt v77 c128_i32_69
  let v79 : BitVec 32 := Scalar.extui v78
  let c0_i32_70 : BitVec 32 := 0#32
  let v80 : BitVec 1 := Scalar.cmpi .ne v79 c0_i32_70
  v80

def k1_off8 (k1_t1 : Fin k1_t1_loop.trips) : Fin 2 → Nat :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c4_i32_66 : BitVec 32 := 4#32
  let v75 : BitVec 32 := Scalar.addi v26 c4_i32_66
  let c8_i32_67 : BitVec 32 := 8#32
  let v76 : BitVec 32 := Scalar.addi v75 c8_i32_67
  let c1_i32_68 : BitVec 32 := 1#32
  let v77 : BitVec 32 := Scalar.subi v76 c1_i32_68
  let c0_i32_106 : BitVec 32 := 0#32
  ![v77.toNat, 0]
def k1_cond6 (k1_t1 : Fin k1_t1_loop.trips) : BitVec 1 :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c5_i32_76 : BitVec 32 := 5#32
  let v87 : BitVec 32 := Scalar.addi v26 c5_i32_76
  let c8_i32_77 : BitVec 32 := 8#32
  let v88 : BitVec 32 := Scalar.addi v87 c8_i32_77
  let c1_i32_78 : BitVec 32 := 1#32
  let v89 : BitVec 32 := Scalar.subi v88 c1_i32_78
  let c128_i32_79 : BitVec 32 := 128#32
  let v90 : BitVec 1 := Scalar.cmpi .slt v89 c128_i32_79
  let v91 : BitVec 32 := Scalar.extui v90
  let c0_i32_80 : BitVec 32 := 0#32
  let v92 : BitVec 1 := Scalar.cmpi .ne v91 c0_i32_80
  v92

def k1_off9 (k1_t1 : Fin k1_t1_loop.trips) : Fin 2 → Nat :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c5_i32_76 : BitVec 32 := 5#32
  let v87 : BitVec 32 := Scalar.addi v26 c5_i32_76
  let c8_i32_77 : BitVec 32 := 8#32
  let v88 : BitVec 32 := Scalar.addi v87 c8_i32_77
  let c1_i32_78 : BitVec 32 := 1#32
  let v89 : BitVec 32 := Scalar.subi v88 c1_i32_78
  let c0_i32_106 : BitVec 32 := 0#32
  ![v89.toNat, 0]
def k1_cond7 (k1_t1 : Fin k1_t1_loop.trips) : BitVec 1 :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c6_i32_86 : BitVec 32 := 6#32
  let v99 : BitVec 32 := Scalar.addi v26 c6_i32_86
  let c8_i32_87 : BitVec 32 := 8#32
  let v100 : BitVec 32 := Scalar.addi v99 c8_i32_87
  let c1_i32_88 : BitVec 32 := 1#32
  let v101 : BitVec 32 := Scalar.subi v100 c1_i32_88
  let c128_i32_89 : BitVec 32 := 128#32
  let v102 : BitVec 1 := Scalar.cmpi .slt v101 c128_i32_89
  let v103 : BitVec 32 := Scalar.extui v102
  let c0_i32_90 : BitVec 32 := 0#32
  let v104 : BitVec 1 := Scalar.cmpi .ne v103 c0_i32_90
  v104

def k1_off10 (k1_t1 : Fin k1_t1_loop.trips) : Fin 2 → Nat :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c6_i32_86 : BitVec 32 := 6#32
  let v99 : BitVec 32 := Scalar.addi v26 c6_i32_86
  let c8_i32_87 : BitVec 32 := 8#32
  let v100 : BitVec 32 := Scalar.addi v99 c8_i32_87
  let c1_i32_88 : BitVec 32 := 1#32
  let v101 : BitVec 32 := Scalar.subi v100 c1_i32_88
  let c0_i32_106 : BitVec 32 := 0#32
  ![v101.toNat, 0]
def k1_cond8 (k1_t1 : Fin k1_t1_loop.trips) : BitVec 1 :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c7_i32 : BitVec 32 := 7#32
  let v111 : BitVec 32 := Scalar.addi v26 c7_i32
  let c8_i32_96 : BitVec 32 := 8#32
  let v112 : BitVec 32 := Scalar.addi v111 c8_i32_96
  let c1_i32_97 : BitVec 32 := 1#32
  let v113 : BitVec 32 := Scalar.subi v112 c1_i32_97
  let c128_i32_98 : BitVec 32 := 128#32
  let v114 : BitVec 1 := Scalar.cmpi .slt v113 c128_i32_98
  let v115 : BitVec 32 := Scalar.extui v114
  let c0_i32_99 : BitVec 32 := 0#32
  let v116 : BitVec 1 := Scalar.cmpi .ne v115 c0_i32_99
  v116

def k1_off11 (k1_t1 : Fin k1_t1_loop.trips) : Fin 2 → Nat :=
  let c0_i32_23 : BitVec 32 := 0#32
  let c1_i32_24 : BitVec 32 := 1#32
  let arg22 : BitVec 32 := Scf.iv c0_i32_23 c1_i32_24 k1_t1
  let c8_i32 : BitVec 32 := 8#32
  let v26 : BitVec 32 := Scalar.muli arg22 c8_i32
  let c7_i32 : BitVec 32 := 7#32
  let v111 : BitVec 32 := Scalar.addi v26 c7_i32
  let c8_i32_96 : BitVec 32 := 8#32
  let v112 : BitVec 32 := Scalar.addi v111 c8_i32_96
  let c1_i32_97 : BitVec 32 := 1#32
  let v113 : BitVec 32 := Scalar.subi v112 c1_i32_97
  let c0_i32_106 : BitVec 32 := 0#32
  ![v113.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S100000x64 : Shape := ⟨2, ![100000, 64]⟩
abbrev S64x50 : Shape := ⟨2, ![64, 50]⟩
abbrev S50 : Shape := ⟨1, ![50]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x64 : Shape := ⟨3, ![4096, 50, 64]⟩
abbrev S4096x50x50 : Shape := ⟨3, ![4096, 50, 50]⟩
abbrev S1x1x50 : Shape := ⟨3, ![1, 1, 50]⟩

abbrev nBuf : Space → Nat
  | .hbm => 31
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x64, .f32⟩
  | .hbm, ⟨2, _⟩ => ⟨S64x50, .f32⟩
  | .hbm, ⟨3, _⟩ => ⟨S50, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S1, .i32⟩
  | .hbm, ⟨13, _⟩ => ⟨S_, .i32⟩
  | .hbm, ⟨14, _⟩ => ⟨S4096x50x1, .i32⟩
  | .hbm, ⟨15, _⟩ => ⟨S4096x50x1, .i1⟩
  | .hbm, ⟨16, _⟩ => ⟨S1x1x1, .i32⟩
  | .hbm, ⟨17, _⟩ => ⟨S4096x50x1, .i32⟩
  | .hbm, ⟨18, _⟩ => ⟨S4096x50x1, .i1⟩
  | .hbm, ⟨19, _⟩ => ⟨S4096x50x1, .i1⟩
  | .hbm, ⟨20, _⟩ => ⟨S_, .i1⟩
  | .hbm, ⟨21, _⟩ => ⟨S4096x50, .i1⟩
  | .hbm, ⟨22, _⟩ => ⟨S4096x50x64, .f32⟩
  | .hbm, ⟨23, _⟩ => ⟨S4096x50x64, .i1⟩
  | .hbm, ⟨24, _⟩ => ⟨S_, .f32⟩
  | .hbm, ⟨25, _⟩ => ⟨S4096x50x64, .f32⟩
  | .hbm, ⟨26, _⟩ => ⟨S4096x50x64, .f32⟩
  | .hbm, ⟨27, _⟩ => ⟨S4096x50x50, .f32⟩
  | .hbm, ⟨28, _⟩ => ⟨S1x1x50, .f32⟩
  | .hbm, ⟨29, _⟩ => ⟨S4096x50x50, .f32⟩
  | .hbm, ⟨30, _⟩ => ⟨S4096x50x50, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Words.lean ====
/-
  The precondition in elementary terms: where the predicate on the indices computes to true, every index, read as a
  natural number, names a row of the table.
-/
module

public import proofs.«01_k».proof.Pre_in_range
public import Idealize.ShloMosaic.Lib.ReduceAll
public import Idealize.ShloMosaic.Lib.WordCmp
public import Idealize.ShloMosaic.Lib.ValueIdxCore

@[expose] public section

noncomputable section

namespace Cert.Proof.K

open Idealize.ShloMosaic Cert.Pre_in_range

variable {F : FTy → Type} [FloatOps F]

/-- A one-bit word made of a truth value is one exactly where the value is true. -/
theorem bit_one {b : Bool} (h : BitVec.ofBool b = 1#1) : b = true := by cases b <;> simp_all

/-- Two one-bit words whose conjunction is one are both one. -/
theorem both_one {p q : BitVec 1} (h : IntOp.andi p q = 1#1) : p = 1#1 ∧ q = 1#1 := by
  have : ∀ p q : BitVec 1, IntOp.andi p q = 1#1 → p = 1#1 ∧ q = 1#1 := by decide
  exact this p q h

/-- A 32-bit word that is at least zero and below 100000 as a signed number is below 100000 as a natural number. -/
theorem word_range {w : BitVec 32} (h0 : IntOp.cmpi .sge w 0#32 = 1#1) (h1 : IntOp.cmpi .slt w 100000#32 = 1#1) : w.toNat < 100000 := by
  have e0 := bit_one h0
  have e1 := bit_one h1
  simp only [BitVec.sle_eq_decide, BitVec.slt_eq_decide, decide_eq_true_eq, BitVec.toInt_eq_toNat_cond, BitVec.toNat_ofNat,
    Nat.reducePow, Nat.reduceMod] at e0 e1
  omega

/-- Where the precondition's predicate is true, every index is below 100000. -/
theorem words_ok [Facts] {a0 : IVec S4096x50 32} {a1 : FVec F S100000x64 .f32} {a2 : FVec F S64x50 .f32} {a3 : FVec F S50 .f32}
    (h : fn (F := F) a0 a1 a2 a3 = fun _ => 1#1) (j : S4096x50.Idx) : (a0 j).toNat < 100000 := by
  haveI : Subsingleton S_.Idx := ⟨fun a b => funext fun x => x.elim0⟩
  have e := Host.reduce_andi_all _ _ _ _ (fun x => x.elim0) (congrFun h (fun x => x.elim0)) j
  obtain ⟨e0, e1⟩ := both_one e
  exact word_range e0 e1

end Cert.Proof.K

end
-- ==== Proof.Setup.lean ====
/-
  The launch of `k` as the SparseCore library sees it, and what the handshakes of the one SparseCore call carry.
  Each of the 32 tasks (SparseCore `c`, vector subcore `s`) owns the 128 rows `256 s + 128 c + r` of the gathered
  array; it is handed those rows, a read share of the projected table and a read share of the padded index array, and
  gives the rows back filled in.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.K

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
/-- The call's grid: two SparseCores, -/
theorem nCore_zero : (K (F := F)).nCore 0 = 2 := rfl
/-- sixteen vector subcores on each. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no task shares a buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The index array, the projected table, the padded index array, the gathered array, the result. -/
abbrev xLoc (d : Dev nD) : Loc nD τ sig := (SparseCore.T d).loc main_arg0
abbrev tLoc (d : Dev nD) : Loc nD τ sig := (SparseCore.T d).loc main_v4
abbrev pLoc (d : Dev nD) : Loc nD τ sig := (SparseCore.T d).loc main_v5
abbrev oLoc (d : Dev nD) : Loc nD τ sig := (SparseCore.T d).loc main_v6

/-- Every word of the index array names a row of the table. -/
def PreOK : Prop := ∀ (d : Dev nD) (j : S4096x50.Idx), (m (xLoc d) j).toNat < 100000

/-- Entry `(r, k)` of an array of 128 words per row, for a row given as a number. -/
abbrev at2 {n : ℕ} [NeZero n] {e : EltTy} (X : (⟨2, ![n, 128]⟩ : Shape).Idx → Elt F e) (r : ℕ) (k : Fin 128) : Elt F e :=
  X (ix2 (Fin.ofNat n r) k)

/-- A task's row of the gathered array: at `(k, l)` it is entry `l` of the table's row that word `k` of the list's
    row `r` names. -/
def gat (T : S100000x128.Idx → Elt F .f32) (I : S128x128.Idx → Elt F .i32) (r : ℕ) : S50x128.Idx → Elt F .f32 :=
  fun j => at2 (F := F) (n := 100000) (e := .f32) T
    (BitVec.toNat (at2 (F := F) (n := 128) (e := .i32) I r ⟨(j 0).val, Nat.lt_trans (j 0).isLt (by decide)⟩)) (j 1)

/-- What the padded index array holds: on the first fifty columns the index array. -/
def PadOK (d : Dev nD) (X : Buf (Elt F) (pLoc d)) : Prop :=
  ∀ (r : Fin 4096) (k : Fin 50), (X : S4096x128.Idx → Elt F .i32) (ix2 r ⟨k.val, by omega⟩) = (m (xLoc d) : S4096x50.Idx → Elt F .i32) (ix2 r k)

/-- The rows of row number `R` of the gathered array. -/
def oRow (R : ℕ) : Finset S4096x50x128.Idx := Finset.univ.filter fun j => (j 0).val = R

/-- The number of task `(c, s)`'s row `r`. -/
abbrev rowNo (c s r : ℕ) : ℕ := 256 * s + 128 * c + r

/-- What entry `j` of the gathered array ends holding, of a table that `TP` holds of: the table's row that the index
    array names, at the entry's lane. -/
def OutOK (TP : (d : Dev nD) → Buf (Elt F) (tLoc d) → Prop) (d : Dev nD) (f : Buf (Elt F) (oLoc d)) (j : S4096x50x128.Idx) : Prop :=
  ∃ T : Buf (Elt F) (tLoc d), TP d T ∧ f j = at2 (F := F) (n := 100000) (e := .f32) T (BitVec.toNat ((m (xLoc d) : S4096x50.Idx → Elt F .i32) (ix2 (j 0) (j 1)))) (j 2)

end Cert.Proof.K

end
-- ==== Proof.Region.lean ====
/-
  The TensorCore's pallas_call inside the SparseCore launch: the projected table. The region is entered from its four
  arrays whole and leaves the first three as they were and the fourth at a table that `TabOK` holds of.
-/
module

public import proofs.«01_k».proof.Proof.Setup
public import proofs.«01_k».proof.Proof.Gen.KernelIdeal.Launch
public import proofs.«01_k».proof.Proof.Gen.KernelIdeal.Points
public import Idealize.ShloMosaic.Lib.Pipeline.KitQuiescent
public import Idealize.ShloMosaic.Lib.Pipeline.Regions
public import Idealize.ShloMosaic.Lib.Pipeline.ArrRel
public import Idealize.ShloMosaic.Lib.Pipeline.Value
public import Idealize.ShloMosaic.Lib.Pipeline.FrameBody

@[expose] public section

set_option maxRecDepth 16384

noncomputable section

namespace Cert.Proof.K

open Cert.KernelIdeal Cert.KernelIdeal.Gen

open Idealize.ShloMosaic
open Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-! ## The data -/

variable (W : Dev nD → Valuation τ sig (Elt F))

/-- The region's three operands as the arrays' entry contents have them: the transposed table, the weights, the bias. -/
abbrev tabT (c : Dev nD) : S64x100000.Idx → Elt F .f32 := W c (Proc.devRef .tc main_v3)
abbrev wPad (c : Dev nD) : S64x128.Idx → Elt F .f32 := W c (Proc.devRef .tc main_v0)
abbrev bPad (c : Dev nD) : S1x128.Idx → Elt F .f32 := W c (Proc.devRef .tc main_v2)

/-- The columns of the transposed table that point `t` reads, those inside the array. -/
def tBlk (c : Dev nD) (t : Fin cfg0.N) : (win0_0.xblock (grid0.coords t)).Idx → Elt F .f32 :=
  (win0_0.blk t).view.read (Elt F) (tabT W c)

/-- The block of the projected table that point `t` computes, the columns past the array's end holding `d`. -/
def pBlk (c : Dev nD) (t : Fin cfg0.N) (d : S64x12800.Idx → Elt F .f32) : S12800x128.Idx → Elt F .f32 :=
  k0_pay1 (F := F) (win0_0.fill (grid0.coords t) d (tBlk W c t)) (wPad W c) (bPad W c)

/-- What the body leaves: the operands as it found them (the table's block may be anything afterwards), the result's
    block the projection. -/
def rdat (c : Dev nD) (O : CellTallies nD τ sig (HIx 1)) : RDat τ (Elt F) (HIx 1) ℕ UU ℕ cfg0 c where
  A w := W c (Proc.devRef .tc (Pipeline.arrRef spec0 w))
  after w t := match w with
    | ⟨0, _⟩ => fun _ _ => True
    | ⟨1, _⟩ => fun Y X => X = Y
    | ⟨2, _⟩ => fun Y X => X = Y
    | ⟨3, _⟩ => fun _ X => ∃ d, X = pBlk W c t d
  Φ _ := iprop(emp)
  q _ := fullShare
  owed _ := O
  recorded _ := {p | (K (F := F)).lev (SparseCore.T c, p.1) p.2 ≤ 0}

variable (c : Dev nD) (O : CellTallies nD τ sig (HIx 1))

/-! ## What the body finds -/

theorem finds0 (t : Fin cfg0.N) (X : S64x12800.Idx → Elt F .f32) (h : (rdat W c O).Finds (0 : Fin 4) t X) :
    ∃ d, X = win0_0.fill (grid0.coords t) d (tBlk W c t) :=
  ((rdat W c O).finds_of_fetch (fetch0_0 t) X).mp h

theorem finds1 [∀ e, Nonempty (Elt F e)] (t : Fin cfg0.N) (X : S64x128.Idx → Elt F .f32)
    (h : (rdat W c O).Finds (1 : Fin 4) t X) : X = wPad W c := by
  obtain ⟨d, hd⟩ := (rdat W c O).finds_in_eq_fetched (1 : Fin 4) rfl (fun _ _ _ => rfl) (fun _ _ _ h => h) t X h
  rw [hd]
  funext j
  have hm : (cfg0.win (1 : Fin 4)).moved (cfg0.grid.coords t) j = true :=
    ((cfg0.win (1 : Fin 4)).moved_iff _ j).mpr fun a => (j a).isLt
  unfold RDat.fetched Window.fill
  rw [dif_pos hm]
  unfold RDat.blockOf
  rw [View.read_apply]
  refine (cast_eq _ _).trans (congrArg (wPad W c) (funext fun a => Fin.ext ?_))
  exact (Window.rect_emb_val_of_index_zero win0_1 t a (by fin_cases a <;> rfl) _)

theorem finds2 [∀ e, Nonempty (Elt F e)] (t : Fin cfg0.N) (X : S1x128.Idx → Elt F .f32)
    (h : (rdat W c O).Finds (2 : Fin 4) t X) : X = bPad W c := by
  obtain ⟨d, hd⟩ := (rdat W c O).finds_in_eq_fetched (2 : Fin 4) rfl (fun _ _ _ => rfl) (fun _ _ _ h => h) t X h
  rw [hd]
  funext j
  have hm : (cfg0.win (2 : Fin 4)).moved (cfg0.grid.coords t) j = true :=
    ((cfg0.win (2 : Fin 4)).moved_iff _ j).mpr fun a => (j a).isLt
  unfold RDat.fetched Window.fill
  rw [dif_pos hm]
  unfold RDat.blockOf
  rw [View.read_apply]
  refine (cast_eq _ _).trans (congrArg (bPad W c) (funext fun a => Fin.ext ?_))
  exact (Window.rect_emb_val_of_index_zero win0_2 t a (by fin_cases a <;> rfl) _)

/-! ## The body -/

/-- The body on its windows' current buffers: the fourth ends holding the projection of what the first three hold. -/
theorem proj_body (E : Set ℕ) (i : grid0.Coords) (s0 : Fin 2) (s1 : Fin 1) (s2 : Fin 1) (s3 : Fin 2)
    (X1 : S64x12800.Idx → Elt F .f32) (X2 : S64x128.Idx → Elt F .f32) (X3 : S1x128.Idx → Elt F .f32) (X4 : S12800x128.Idx → Elt F .f32)
    (Q : PUnit → sProp (MT nD τ sig (HIx 1) (Elt F) ℕ UU ℕ)) :
    iprop((owns (c : Thread nD τ) (stage0_0 s0) fullShare X1 ∗ owns (c : Thread nD τ) (stage0_1 s1) fullShare X2
            ∗ owns (c : Thread nD τ) (stage0_2 s2) fullShare X3 ∗ owns (c : Thread nD τ) (stage0_3 s3) fullShare X4)
          ∗ (iprop(owns (c : Thread nD τ) (stage0_0 s0) fullShare X1 ∗ owns (c : Thread nD τ) (stage0_1 s1) fullShare X2
            ∗ owns (c : Thread nD τ) (stage0_2 s2) fullShare X3 ∗ owns (c : Thread nD τ) (stage0_3 s3) fullShare (k0_pay1 (F := F) X1 X2 X3)) -∗ Q ⟨⟩))
      ⊢ wp frame (wpE (defs₀ (F := F)) 𝒱₀ c none) E (cc0__proj_body i (stage0_0 s0) (hstage0_0 s0) (stage0_1 s1) (hstage0_1 s1)
          (stage0_2 s2) (hstage0_2 s2) (stage0_3 s3) (hstage0_3 s3)) Q := by
  have hz : (![0, 0] : Fin 2 → Nat) = fun _ => 0 := funext fun a => by fin_cases a <;> rfl
  fin_cases s0 <;> fin_cases s1 <;> fin_cases s2 <;> fin_cases s3
  all_goals
    simp only [owns_whole_eq, cc0__proj_body_eq_skeleton]; unfold cc0__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    iexists _; isplitr [H3]; rotate_left
    · iexact H3
    ipureintro
    refine (Memref.write_access_unit_zero_univ (Elt F) _ hz _ _ _).trans ?_
    rw [← hf0, ← hf1, ← hf2]
    first
    | exact congr (congr (congrArg (k0_pay1 (F := F)) (Memref.readAt_unit_zero (Elt F) cc0_stg0_0 hz _ f0))
        (Memref.readAt_unit_zero (Elt F) cc0_stg1_0 hz _ f1)) (Memref.readAt_unit_zero (Elt F) cc0_stg2_0 hz _ f2)
    | exact congr (congr (congrArg (k0_pay1 (F := F)) (Memref.readAt_unit_zero (Elt F) cc0_stg0_1 hz _ f0))
        (Memref.readAt_unit_zero (Elt F) cc0_stg1_0 hz _ f1)) (Memref.readAt_unit_zero (Elt F) cc0_stg2_0 hz _ f2)

/-- The body's obligation at every point. -/
theorem body_obligation [∀ e, Nonempty (Elt F e)] : (rdat W c O).BodyObligation (defs₀ (F := F)) 𝒱₀ none Set.univ := fun t Y hY => by
  obtain ⟨d, hd⟩ := finds0 W c O t (Y (0 : Fin 4)) (hY (0 : Fin 4))
  have h1 := finds1 W c O t (Y (1 : Fin 4)) (hY (1 : Fin 4))
  have h2 := finds2 W c O t (Y (2 : Fin 4)) (hY (2 : Fin 4))
  rw [bigSep_W0, bigSep_W0]
  rw [show (rdat W c O).Φ t.succ = (rdat W c O).Φ t.castSucc from rfl,
    show (rdat W c O).owesAt none t.succ = (rdat W c O).owesAt none t.castSucc from rfl]
  iintro ⟨HΦ, Ho, H0, H1, H2, H3⟩
  iapply (proj_body (F := F) c Set.univ (grid0.coords t) (cfg0.slots t 0) (cfg0.slots t 1) (cfg0.slots t 2) (cfg0.slots t 3)
    (Y (0 : Fin 4)) (Y (1 : Fin 4)) (Y (2 : Fin 4)) (Y (3 : Fin 4)) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists Y (0 : Fin 4); isplitr; · ipureintro; trivial
    iexact H0
  isplitl [H1]
  · iexists Y (1 : Fin 4); isplitr; · ipureintro; rfl
    iexact H1
  isplitl [H2]
  · iexists Y (2 : Fin 4); isplitr; · ipureintro; rfl
    iexact H2
  iexists _; isplitr [H3]; rotate_left
  · iexact H3
  ipureintro
  exact ⟨d, by unfold pBlk; rw [hd, h1, h2]⟩

/-! ## The table after the region -/

/-- The point whose block holds row `j 0`. -/
def pt (j : S100000x128.Idx) : Fin cfg0.N := ⟨(j 0).val / 12800, by
  have h : (j 0).val < 100000 := (j 0).isLt
  have hN : cfg0.N = 8 := N_0
  omega⟩

/-- The projected table: each entry is the block's that its point computed, for some words past the array's end. -/
def TabOK (d : Dev nD) (T : Buf (Elt F) (tLoc d)) : Prop :=
  ∀ j : S100000x128.Idx, ∃ x, (T : S100000x128.Idx → Elt F .f32) j
    = pBlk W d (pt j) x (ix2 ⟨(j 0).val % 12800, Nat.mod_lt _ (by decide)⟩ (j 1))

theorem arr_TabOK [∀ e, Nonempty (Elt F e)] (G : Buf (Elt F) (tLoc c)) (hG : (rdat W c O).ArrAt (3 : Fin 4) cfg0.N G) : TabOK W c G := by
  obtain ⟨X, hX, hA⟩ := RDat.ArrAt.exists_exact hG
  rw [hA (Function.update (fun _ _ _ => Classical.arbitrary _) (3 : Fin 4) X) fun u _ _ => by rw [Function.update_self]]
  intro j
  refine Pipeline.Dat.arrAt_forall_of_covers (cfg := cfg0) ((rdat W c O).withAfter _) (3 : Fin 4) (fun i v => ∃ x, v = pBlk W c (pt i) x (ix2 ⟨(i 0).val % 12800, Nat.mod_lt _ (by decide)⟩ (i 1)))
    (by decide +kernel) (fun t hf y => ?_) j (arr_whole0 3)
  obtain ⟨Y, -, x, hx⟩ := hX t t.isLt hf
  refine ⟨x, ?_⟩
  rw [RDat.withAfter_after, Function.update_self, hx]
  refine (cast_eq _ _).trans ?_
  have e0 : ((((cfg0.win (3 : Fin 4)).blk t).view.emb y : S100000x128.Idx) 0).val = t.val * 12800 + (y 0).val := by
    refine (Window.rect_emb_val win0_3 t y 0).trans (congrArg (· * 12800 + (y 0).val) ?_)
    exact (by decide +kernel : ∀ t : Fin grid0.N, win0_3.index t 0 = t.val) t
  have e1 : ((((cfg0.win (3 : Fin 4)).blk t).view.emb y : S100000x128.Idx) 1).val = (y 1).val :=
    Window.rect_emb_val_of_index_zero win0_3 t 1 rfl y
  have hy : (y 0).val < 12800 := lt_of_lt_of_le (y 0).isLt ((cfg0.win (3 : Fin 4)).xsize_le _ 0)
  have et : pt (((cfg0.win (3 : Fin 4)).blk t).view.emb y) = t := Fin.ext (by
    show ((((cfg0.win (3 : Fin 4)).blk t).view.emb y : S100000x128.Idx) 0).val / 12800 = t.val
    omega)
  rw [et]
  refine congrArg (pBlk W c t x) (funext fun a => Fin.ext ?_)
  fin_cases a
  · show (y 0).val = _ % 12800
    omega
  · exact e1.symm

end Cert.Proof.K

end
-- ==== Proof.RegionRun.lean ====
/-
  The pallas_call's region as a segment of @main: entered from its four arrays whole and what the TensorCore owes the
  SparseCores, left with the result at a table that `TabOK` holds of and the rest as it was.
-/
module

public import proofs.«01_k».proof.Proof.Region
public import Idealize.ShloMosaic.Lib.Pipeline.RegionArrays

@[expose] public section

set_option maxRecDepth 16384

noncomputable section

namespace Cert.Proof.K

open Cert.KernelIdeal Cert.KernelIdeal.Gen

open Idealize.ShloMosaic
open Idealize.ShloMosaic.TcCoe
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

/-- Where the pipeline's rounds live in the ghost state. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP (F := F) : Emb UP 𝕄).LandsIn (upEmb : UEmb _ 𝕄) := by unfold EP; infer_instance

/-- The pipeline prefetches nothing, so its tables are the empty ones. -/
abbrev adm : (p : Fin 1) → (pcfgs (F := F) p).Adm := fun p => (cfgs p).toPCfg_adm

variable (W : Dev nD → Valuation τ sig (Elt F)) (O : Dev nD → CellTallies nD τ sig (HIx 1))

/-- The region's data, as the family over the one pipeline. -/
def rdats (p : Fin 1) (c : Dev nD) : RDat τ (Elt F) (HIx 1) ℕ UU ℕ (Pipeline.pin (pcfgs (F := F)) adm p) c := match p with
  | ⟨0, _⟩ => rdat W c (O c)

/-- The region's arrays at the entry contents, `T` in the result. -/
def arrs (c : Dev nD) (T : Buf (Elt F) (tLoc c)) : sProp 𝕄 :=
  iprop((((SparseCore.T c).loc main_v3) ↦{fullShare} W c (Proc.devRef .tc main_v3)) ∗ (((SparseCore.T c).loc main_v0) ↦{fullShare} W c (Proc.devRef .tc main_v0))
    ∗ (((SparseCore.T c).loc main_v2) ↦{fullShare} W c (Proc.devRef .tc main_v2)) ∗ (tLoc c ↦{fullShare} T))

/-- The core's debts, with no wait recorded above the lowest level. -/
def debts (c : Dev nD) : sProp 𝕄 :=
  iprop(∃ Wd, ⌜(K (F := F)).WBelow (SparseCore.T c) Wd 0⌝ ∗ owes (SparseCore.T c) (O c) Wd)

theorem owesAt_debts (c : Dev nD) (t : Fin (cfg0.N + 1)) :
    ((rdat W c (O c)).owesAt none t : sProp 𝕄) ⊣⊢ debts (F := F) O c := by
  unfold RDat.owesAt Pipeline.owesWithin RDat.bound debts
  constructor
  · iintro ⟨%Wd, %hW, HO⟩
    iexists Wd
    isplitr
    · ipureintro
      intro p hp
      rcases hW hp with h | ⟨w, s, rfl⟩
      · exact h
      · exact le_rfl
    iexact HO
  · iintro ⟨%Wd, %hW, HO⟩
    iexists Wd
    isplitr
    · ipureintro
      intro p hp
      exact Or.inl (hW p hp)
    iexact HO

theorem arrays_entry (c : Dev nD) :
    ((rdat W c (O c)).arrays (rdat W c (O c)).A : sProp 𝕄) = arrs W c (W c (Proc.devRef .tc main_v4)) := by
  unfold RDat.arrays arrs
  rw [bigSep_W0]
  rw [(arr_whole0 0).set_eq_univ, (arr_whole0 1).set_eq_univ, (arr_whole0 2).set_eq_univ, (arr_whole0 3).set_eq_univ]
  rfl

theorem arraysAt_exit [∀ e, Nonempty (Elt F e)] (c : Dev nD) :
    ((rdat W c (O c)).arraysAt cfg0.N : sProp 𝕄) ⊢ iprop(∃ T, ⌜TabOK W c T⌝ ∗ arrs W c T) := by
  unfold RDat.arraysAt arrs
  rw [bigSep_W0]
  rw [(arr_whole0 0).set_eq_univ, (arr_whole0 1).set_eq_univ, (arr_whole0 2).set_eq_univ, (arr_whole0 3).set_eq_univ]
  rw [RDat.ArrAt_in (rdat W c (O c)) (0 : Fin 4) rfl, RDat.ArrAt_in (rdat W c (O c)) (1 : Fin 4) rfl, RDat.ArrAt_in (rdat W c (O c)) (2 : Fin 4) rfl]
  iintro ⟨⟨%F0, %h0, H0⟩, ⟨%F1, %h1, H1⟩, ⟨%F2, %h2, H2⟩, ⟨%F3, %h3, H3⟩⟩
  subst h0; subst h1; subst h2
  iexists F3
  isplitr
  · ipureintro; exact arr_TabOK W c (O c) F3 h3
  isplitl [H0]; · iexact H0
  isplitl [H1]; · iexact H1
  isplitl [H2]; · iexact H2
  iexact H3

/-- The region as a segment. -/
def seg [∀ e, Nonempty (Elt F e)] (hO : ∀ c g, O c g none = 0) :
    RDat.RegionSeg (pcfgs (F := F)) adm (rdats W O) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation W c (O c)
  hwaits c := RDat.cellsWaits_intro (Pipeline.pin (pcfgs (F := F)) adm) (rdats W O) none 0 c fun w s t =>
    (K (F := F)).mayWait_none _ (hO c)
  pre c := iprop(arrs W c (W c (Proc.devRef .tc main_v4)) ∗ debts O c)
  post c := iprop((∃ T, ⌜TabOK W c T⌝ ∗ arrs W c T) ∗ debts O c)
  X _ := iprop(emp)
  Y _ := iprop(emp)
  Z _ := iprop(emp)
  hentry c := by
    show _ ⊢ |={Set.univ}=> iprop((rdat W c (O c)).arrays (rdat W c (O c)).A ∗ _ ∗ (rdat W c (O c)).owesAt none 0 ∗ _ ∗ _)
    rw [Pipeline.ownSems0_none, Pipeline.prefHeld_of_none _ rfl, arrays_entry]
    iintro ⟨⟨Ha, HO⟩, -, -⟩
    ihave HO := (owesAt_debts W O c 0).2 $$ HO
    imodintro
    isplitl [Ha]; · iexact Ha
    isplitr; · iempintro
    isplitl [HO]; · iexact HO
    isplitr <;> iempintro
  hin c := by
    show _ ⊢ (iprop(emp) : sProp 𝕄)
    iintro -
    iempintro
  hout c := by
    show (iprop(emp) : sProp 𝕄) ⊢ iprop(emp ∗ _ ∗ Pipeline.scopedRest spec0 c)
    rw [Pipeline.ownSems0_none, scopedRest0_eq]
    iintro -
    isplitr; · iempintro
    isplitr <;> iempintro
  hexit c := by
    show iprop((rdat W c (O c)).arraysAt cfg0.N ∗ (rdat W c (O c)).owesAt none (Fin.last cfg0.N) ∗ emp ∗ emp) ⊢ _
    iintro ⟨Ha, HO, -⟩
    ihave HO := (owesAt_debts W O c _).1 $$ HO
    ihave Ha := (arraysAt_exit W O c) $$ Ha
    imodintro
    isplitl [Ha]; · iexact Ha
    iexact HO

/-- The region's ghost state on a core. -/
abbrev regionGhost (c : Dev nD) : sProp (MT nD τ sig (HIx 1) (Elt F) ℕ UU ℕ) :=
  iprop(Pipeline.cellsGhost (Pipeline.pin (pcfgs (F := F)) adm) (EP (F := F)) 0 c ∗ Pipeline.toksInit (Pipeline.pin (pcfgs (F := F)) adm) (EP (F := F)) 0 c)

/-- The region's rule in @main under the SparseCore launch: from its arrays, the debts and its ghost state to the
    table in the result. -/
theorem wp_region [∀ e, Nonempty (Elt F e)] (hO : ∀ c g, O c g none = 0) (c : Dev nD) (Q : PUnit → sProp 𝕄) :
    iprop((iprop(boundary (SparseCore.T c) ∗ (∃ T, ⌜TabOK W c T⌝ ∗ arrs W c T) ∗ debts O c) -∗ Q ⟨⟩)
        ∗ boundary (SparseCore.T c) ∗ (arrs W c (W c (Proc.devRef .tc main_v4)) ∗ debts O c) ∗ levAts (K (F := F)).L (K (F := F)).lev
        ∗ regionGhost (F := F) c)
      ⊢ wp frame (wpE ((K (F := F)).defs D) 𝒱 (SparseCore.T c) none) Set.univ
          (Prog.lift (.customCall (SparseCore.inner (Pipeline.entry 0)) ())) Q := by
  have hp : (Prog.lift (.customCall (SparseCore.inner (Pipeline.entry 0)) ()) : Prog (TpuEff nD τ sig (Elt F) (SparseCore.Sig (ΛP (F := F)) 1) .tc) PUnit)
      = SparseCore.liftProg (Prog.op (TpuEff.customCall (Pipeline.entry 0) ()) fun x => Prog.ret x) := rfl
  rw [hp]
  refine BIBase.Entails.trans ?_ ((K (F := F)).wp_liftProg D 𝒱 (SparseCore.T c) Set.univ none _ Q)
  have hw := RDat.RegionSeg.wp (pcfgs (F := F)) adm (rdats W O) none cellOf_inj (EP (F := F)) (defs₀ (F := F)) 𝒱₀
    (K (F := F)).L (K (F := F)).lev (seg W O hO) c none (fun u hu => absurd hu (by simp)) (fun x => .ret x) Q
  refine BIBase.Entails.trans ?_ hw
  refine sep_mono (wand_mono Entails.rfl ?_) Entails.rfl
  rw [wp_ret]
  exact BI.fupd_intro

end Cert.Proof.K

end
-- ==== Proof.Host.lean ====
/-
  The host operations around the two calls: the lists of them, what the arrays hold after the first list as functions of
  the launch contents, and that the padded index array holds the index array on its first fifty columns.
-/
module

public import proofs.«01_k».proof.Proof.RegionRun
public import Idealize.ShloMosaic.Lib.StableHlo.RunRead
public import Idealize.ShloMosaic.Lib.Pipeline.Frame
public import Idealize.ShloMosaic.Lib.KernelVsHost

@[expose] public section

set_option maxRecDepth 16384

noncomputable section

namespace Cert.Proof.K

open Cert.KernelIdeal Cert.KernelIdeal.Gen

open Idealize.ShloMosaic
open Idealize.ShloMosaic.TcCoe
open Idealize.ShloMosaic.ValueIdx
open Idealize.ShloMosaic.StableHlo
open Idealize.ShloMosaic.SparseCore.Cfg (HIx)
open Idealize.SL.Sem

variable {F : FTy → Type} [FloatOps F]

/-! ## The operations -/

/-- The operations before the projection: the padded weights, the padded bias as a row, the table transposed. -/
abbrev opsA : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S64x50, .f32⟩) main_arg2) (TRef.of (T := ⟨S_, .f32⟩) main_call0_v0) (TRef.of (T := ⟨S64x128, .f32⟩) main_v0)
      (fun x v => pad S64x128 ![0, 0] ![0, 78] ![0, 0] x v pads_S64x50_S64x128_000_0780 h_S_),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S50, .f32⟩) main_arg3) (TRef.of (T := ⟨S_, .f32⟩) main_call1_v0) (TRef.of (T := ⟨S128, .f32⟩) main_v1)
      (fun x v => pad S128 ![0] ![78] ![0] x v pads_S50_S128_0780 h_S_),
    reshape main_v1 main_v2 (rfl : (.f32 : EltTy) = .f32) shapeCasts_S128_S1x128,
    unary main_arg1 main_v3 ((transpose S64x100000 [1, 0] · transposes_S100000x64_S64x100000_1_0) :
      (⟨S100000x64, .f32⟩ : BufTy).Contents (Elt F) → (⟨S64x100000, .f32⟩ : BufTy).Contents (Elt F)) ]

/-- The operations between the projection and the gather: the padded index array. -/
abbrev opsB : List (HloOp τ sig (Elt F)) :=
  [ nullary main_c_1 (constantI S_ 32 0#32),
    TRef.unary (TRef.of (T := ⟨S_, .i32⟩) main_c_1) (TRef.of (T := ⟨S_, .i32⟩) main_call2_v0) id,
    TRef.binary (TRef.of (T := ⟨S4096x50, .i32⟩) main_arg0) (TRef.of (T := ⟨S_, .i32⟩) main_call2_v0) (TRef.of (T := ⟨S4096x128, .i32⟩) main_v5)
      (fun x v => pad S4096x128 ![0, 0] ![0, 78] ![0, 0] x v pads_S4096x50_S4096x128_000_0780 h_S_) ]

/-- The operation after the gather: the lanes past the fiftieth sliced off. -/
abbrev opC : HloOp τ sig (Elt F) :=
  unary main_v6 main_v7 ((extractStridedSlice S4096x50x50 ![0, 0, 0] · slices_S4096x50x128_S4096x50x50_0_0_0) :
    (⟨S4096x50x128, .f32⟩ : BufTy).Contents (Elt F) → (⟨S4096x50x50, .f32⟩ : BufTy).Contents (Elt F))

/-- @main is the first operations, the projection's region, the next ones, the gather's call, the slice. -/
theorem main_eq (d : Dev nD) : main (F := F) d = (seq opsA >>= fun _ =>
    Prog.lift (.customCall (SparseCore.inner (Pipeline.entry 0)) ()) >>= fun _ => seq opsB >>= fun _ =>
    sc.run d 0 >>= fun _ => hlo rfl opC fun _ => .ret ⟨⟩) := rfl

theorem opsA_sub : ∀ op ∈ (opsA : List (HloOp τ sig (Elt F))), op.bufs ⊆ Pipeline.ucRefs τ sig :=
  List.forall_iff_forall_mem.mp ⟨Pipeline.sub_ucRefs _ (nullary_bufs_sub ..), Pipeline.sub_ucRefs _ (unary_bufs_sub ..),
    Pipeline.sub_ucRefs _ (binary_bufs_sub ..), Pipeline.sub_ucRefs _ (nullary_bufs_sub ..), Pipeline.sub_ucRefs _ (unary_bufs_sub ..),
    Pipeline.sub_ucRefs _ (binary_bufs_sub ..), Pipeline.sub_ucRefs _ (reshape_bufs_sub ..), Pipeline.sub_ucRefs _ (unary_bufs_sub ..)⟩

theorem opsB_sub : ∀ op ∈ (opsB : List (HloOp τ sig (Elt F))), op.bufs ⊆ Pipeline.ucRefs τ sig :=
  List.forall_iff_forall_mem.mp ⟨Pipeline.sub_ucRefs _ (nullary_bufs_sub ..), Pipeline.sub_ucRefs _ (unary_bufs_sub ..),
    Pipeline.sub_ucRefs _ (binary_bufs_sub ..)⟩

theorem opsA_fresh : ∀ op ∈ (opsA : List (HloOp τ sig (Elt F))), op.fresh = ∅ :=
  List.forall_iff_forall_mem.mp ⟨rfl, rfl, rfl, rfl, rfl, rfl, rfl, rfl⟩
theorem opsB_fresh : ∀ op ∈ (opsB : List (HloOp τ sig (Elt F))), op.fresh = ∅ :=
  List.forall_iff_forall_mem.mp ⟨rfl, rfl, rfl⟩

/-! ## What the arrays hold -/

variable (m : (ℓ : Loc nD τ sig) → Buf (Elt F) ℓ)

/-- The launch contents, the contents before the projection, and — with the projected table `Tb` — before the gather. -/
def V0 (d : Dev nD) : Valuation τ sig (Elt F) := fun b => m (d, b)
def VA (d : Dev nD) : Valuation τ sig (Elt F) := after opsA (V0 m d)
def VT (d : Dev nD) (Tb : Buf (Elt F) (tLoc d)) : Valuation τ sig (Elt F) := Function.update (VA m d) (Proc.devRef .tc main_v4) Tb
def VB (d : Dev nD) (Tb : Buf (Elt F) (tLoc d)) : Valuation τ sig (Elt F) := after opsB (VT m d Tb)

theorem VA_arg0 (d : Dev nD) : VA m d (Proc.devRef .tc main_arg0) = m (xLoc d) := by
  unfold VA; after_reads_simp; rfl
theorem VA_arg1 (d : Dev nD) : VA m d (Proc.devRef .tc main_arg1) = m ((SparseCore.T d).loc main_arg1) := by
  unfold VA; after_reads_simp; rfl
theorem VA_arg2 (d : Dev nD) : VA m d (Proc.devRef .tc main_arg2) = m ((SparseCore.T d).loc main_arg2) := by
  unfold VA; after_reads_simp; rfl
theorem VA_arg3 (d : Dev nD) : VA m d (Proc.devRef .tc main_arg3) = m ((SparseCore.T d).loc main_arg3) := by
  unfold VA; after_reads_simp; rfl

/-- The padded weights, the padded bias and the transposed table, of the arguments. -/
theorem VA_v0 (d : Dev nD) : (VA m d (Proc.devRef .tc main_v0) : S64x128.Idx → Elt F .f32)
    = pad S64x128 ![0, 0] ![0, 78] ![0, 0] (m ((SparseCore.T d).loc main_arg2) : S64x50.Idx → Elt F .f32)
        (sitofp .f32 (constantI S_ 32 0#32)) pads_S64x50_S64x128_000_0780 h_S_ := by
  unfold VA; after_reads_simp; rfl
theorem VA_v2 (d : Dev nD) : (VA m d (Proc.devRef .tc main_v2) : S1x128.Idx → Elt F .f32)
    = shapeCast S1x128 (pad S128 ![0] ![78] ![0] (m ((SparseCore.T d).loc main_arg3) : S50.Idx → Elt F .f32)
        (sitofp .f32 (constantI S_ 32 0#32)) pads_S50_S128_0780 h_S_) shapeCasts_S128_S1x128 := by
  unfold VA; after_reads_simp; rfl
theorem VA_v3 (d : Dev nD) : (VA m d (Proc.devRef .tc main_v3) : S64x100000.Idx → Elt F .f32)
    = transpose S64x100000 [1, 0] (m ((SparseCore.T d).loc main_arg1) : S100000x64.Idx → Elt F .f32) transposes_S100000x64_S64x100000_1_0 := by
  unfold VA; after_reads_simp; rfl

variable (d : Dev nD) (Tb : Buf (Elt F) (tLoc d))

theorem VT_v4 : VT m d Tb (Proc.devRef .tc main_v4) = Tb := Function.update_self _ _ _
theorem VT_ne (b : DevRef τ sig) (h : b ≠ Proc.devRef .tc main_v4) : VT m d Tb b = VA m d b := Function.update_of_ne h _ _

theorem VB_arg0 : VB m d Tb (Proc.devRef .tc main_arg0) = m (xLoc d) := by
  unfold VB; after_reads_simp; rw [VT_ne m d Tb _ (by decide)]; exact VA_arg0 m d
theorem VB_arg1 : VB m d Tb (Proc.devRef .tc main_arg1) = m ((SparseCore.T d).loc main_arg1) := by
  unfold VB; after_reads_simp; rw [VT_ne m d Tb _ (by decide)]; exact VA_arg1 m d
theorem VB_arg2 : VB m d Tb (Proc.devRef .tc main_arg2) = m ((SparseCore.T d).loc main_arg2) := by
  unfold VB; after_reads_simp; rw [VT_ne m d Tb _ (by decide)]; exact VA_arg2 m d
theorem VB_arg3 : VB m d Tb (Proc.devRef .tc main_arg3) = m ((SparseCore.T d).loc main_arg3) := by
  unfold VB; after_reads_simp; rw [VT_ne m d Tb _ (by decide)]; exact VA_arg3 m d
theorem VB_v4 : VB m d Tb (Proc.devRef .tc main_v4) = Tb := by
  unfold VB; after_reads_simp; exact VT_v4 m d Tb
theorem VB_v5 : (VB m d Tb (Proc.devRef .tc main_v5) : S4096x128.Idx → Elt F .i32)
    = pad S4096x128 ![0, 0] ![0, 78] ![0, 0] (m (xLoc d) : S4096x50.Idx → Elt F .i32) (constantI S_ 32 0#32) pads_S4096x50_S4096x128_000_0780 h_S_ := by
  unfold VB; after_reads_simp
  show pad S4096x128 ![0, 0] ![0, 78] ![0, 0] (VT m d Tb (Proc.devRef .tc main_arg0) : S4096x50.Idx → Elt F .i32) (constantI S_ 32 0#32) pads_S4096x50_S4096x128_000_0780 h_S_ = _
  rw [VT_ne m d Tb _ (by decide), VA_arg0]

/-- The padded index array holds the index array on its first fifty columns. -/
theorem VB_PadOK : PadOK m d (VB m d Tb (Proc.devRef .tc main_v5)) := fun r k => by
  rw [VB_v5]
  exact pad_apply_of_inside _ _ _ _ _ _ _ _ _ fun
    | 0 => by show r.val = 0 + r.val * 1; omega
    | 1 => by show k.val = 0 + k.val * 1; omega

end Cert.Proof.K

end
-- ==== Proof.Slots.lean ====
/-
  One gather buffer of a task: a row of the index list is gathered into it, waited for, and copied out to its row of
  the gathered array. Each buffer has its own semaphore, its own read share of the table and its own read share of the
  fetched index list, so what the eight buffers do is said buffer by buffer.
-/
module

public import proofs.«01_k».proof.Proof.Setup
public import Idealize.ShloMosaic.Lib.ValueLayout

@[expose] public section

set_option maxRecDepth 16384

noncomputable section

namespace Cert.Proof.K

open Cert.KernelIdeal Cert.KernelIdeal.Gen

open Idealize.ShloMosaic
open Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The views -/

/-- The projected table, the padded index array, the gathered array, and the fetched index list, as a task names them. -/
abbrev tV : Memref sig .scVector .hbm S100000x128 .f32 := Memref.whole main_v4_scv
abbrev pV : Memref sig .scVector .hbm S4096x128 .i32 := Memref.whole main_v5_scv
abbrev oV : Memref sig .scVector .hbm S4096x50x128 .f32 := Memref.whole main_v6_scv
abbrev iV : Memref sig .scVector .vmem S128x128 .i32 := Memref.whole cc1_scratch0

/-- The table as a gather names it: the slice that is all of it. -/
abbrev tAll : Memref sig .scVector .hbm S100000x128 .f32 :=
  tV.slice (Rect.unit (s := S100000x128) ![0, 0] S100000x128.size inb_S100000x128_S100000x128_0_0) (fun _ => rfl)

/-- The first fifty words of a row of the fetched index list. -/
abbrev iRow (off : Fin 2 → ℕ) (inb : ∀ a, off a + S1x50.size a ≤ S128x128.size a) : Memref sig .scVector .vmem S50 .i32 :=
  (iV.slice (Rect.unit (s := S128x128) off S1x50.size inb) (fun _ => rfl)).squeeze S50 squeezes_S1x50_S50

/-- A row of the gathered array. -/
abbrev oRowV (off : Fin 3 → ℕ) (inb : ∀ a, off a + S1x50x128.size a ≤ S4096x50x128.size a) : Memref sig .scVector .hbm S50x128 .f32 :=
  (oV.slice (Rect.unit (s := S4096x50x128) off S1x50x128.size inb) (fun _ => rfl)).squeeze S50x128 squeezes_S1x50x128_S50x128

theorem set_tAll : tAll.view.set = (Finset.univ : Finset S100000x128.Idx) := by
  ext j
  simp only [Finset.mem_univ, iff_true]
  show j ∈ ((View.whole (main_v4_scv : Ref sig .scVector)).slice _).set
  rw [View.set_slice]
  refine Finset.mem_map.mpr ⟨j, Rect.mem_set_unit.mpr fun a => ?_, rfl⟩
  match a with
  | 0 => exact ⟨Nat.zero_le _, by show (j 0).val < 0 + 100000; rw [Nat.zero_add]; exact (j 0).isLt⟩
  | 1 => exact ⟨Nat.zero_le _, by show (j 1).val < 0 + 128; rw [Nat.zero_add]; exact (j 1).isLt⟩

theorem read_tAll (T : S100000x128.Idx → Elt F .f32) (j : S100000x128.Idx) : tAll.view.read (Elt F) T j = T j := by
  have h : tAll.view.emb j = j := by
    funext a; apply Fin.ext
    match a with
    | 0 => show 0 + 1 * (j 0).val = _; omega
    | 1 => show 0 + 1 * (j 1).val = _; omega
  exact ((View.read_apply (v := tAll.view) T j).trans (cast_eq _ _)).trans (congrArg T h)

theorem read_iRow (off : Fin 2 → ℕ) (inb) (r : ℕ) (hoff : off = ![r, 0]) (I : S128x128.Idx → Elt F .i32) (j : S50.Idx) :
    (iRow off inb).view.read (Elt F) I j = at2 (F := F) (n := 128) (e := .i32) I r ⟨(j 0).val, Nat.lt_trans (j 0).isLt (by decide)⟩ := by
  subst hoff
  have hr : r + 1 ≤ 128 := inb 0
  have h : (iRow ![r, 0] inb).view.emb j = ix2 (Fin.ofNat 128 r) ⟨(j 0).val, Nat.lt_trans (j 0).isLt (by decide)⟩ := by
    show ((iV.view.slice (Rect.unit (s := S128x128) ![r, 0] S1x50.size inb)).reshape S50 squeezes_S1x50_S50.numel_eq).emb j = _
    rw [View.emb_reshape]
    show (Rect.unit (s := S128x128) ![r, 0] S1x50.size inb).emb (Shape.reshapeEquiv _ j) = _
    rw [show Shape.reshapeEquiv squeezes_S1x50_S50.numel_eq j = Fin.cons ⟨0, Nat.one_pos⟩ j from Shape.reshapeEquiv_cons_one _ j]
    funext a; apply Fin.ext
    match a with
    | 0 => show r + 1 * 0 = r % 128; rw [Nat.mod_eq_of_lt (by omega)]; omega
    | 1 => show 0 + 1 * (j 0).val = (j 0).val; omega
  exact ((View.read_apply (v := (iRow ![r, 0] inb).view) I j).trans (cast_eq _ _)).trans (congrArg I h)

theorem emb_oRowV (off : Fin 3 → ℕ) (inb) (R : ℕ) (hoff : off = ![R, 0, 0]) (j : S50x128.Idx) :
    (oRowV off inb).view.emb j = (ix3 (Fin.ofNat 4096 R) (j 0) (j 1) : S4096x50x128.Idx) := by
  subst hoff
  have hr : R + 1 ≤ 4096 := inb 0
  show ((oV.view.slice (Rect.unit (s := S4096x50x128) ![R, 0, 0] S1x50x128.size inb)).reshape S50x128 squeezes_S1x50x128_S50x128.numel_eq).emb j = _
  rw [View.emb_reshape]
  show (Rect.unit (s := S4096x50x128) ![R, 0, 0] S1x50x128.size inb).emb (Shape.reshapeEquiv _ j) = _
  rw [show Shape.reshapeEquiv squeezes_S1x50x128_S50x128.numel_eq j = Fin.cons ⟨0, Nat.one_pos⟩ j from Shape.reshapeEquiv_cons_one _ j]
  funext a; apply Fin.ext
  match a with
  | 0 => show R + 1 * 0 = R % 4096; rw [Nat.mod_eq_of_lt (by omega)]; omega
  | 1 => show 0 + 1 * (j 0).val = (j 0).val; omega
  | 2 => show 0 + 1 * (j 1).val = (j 1).val; omega

theorem set_oRowV (off : Fin 3 → ℕ) (inb) (R : ℕ) (hoff : off = ![R, 0, 0]) : (oRowV off inb).view.set = oRow R := by
  have hr : R + 1 ≤ 4096 := by subst hoff; exact inb 0
  ext j
  simp only [oRow, Finset.mem_filter, Finset.mem_univ, true_and]
  constructor
  · intro hj
    obtain ⟨x, -, rfl⟩ := Finset.mem_map.mp hj
    rw [emb_oRowV off inb R hoff x]
    exact Nat.mod_eq_of_lt (by omega)
  · intro hj
    refine Finset.mem_map.mpr ⟨ix2 (j 1) (j 2), Finset.mem_univ _, ?_⟩
    refine (emb_oRowV off inb R hoff _).trans ?_
    funext a; apply Fin.ext
    match a with
    | 0 => show R % 4096 = _; rw [Nat.mod_eq_of_lt (by omega)]; exact hj.symm
    | 1 => rfl
    | 2 => rfl

/-- The gather's payload is the table's rows that the list's row names. -/
theorem payload_eq (off : Fin 2 → ℕ) (inb) (r : ℕ) (hoff : off = ![r, 0]) (T : S100000x128.Idx → Elt F .f32) (I : S128x128.Idx → Elt F .i32)
    (hn) (hin) :
    gatherPayload gathers_S100000x128_S50x128 (tAll.view.read (Elt F) T)
        (rows (F := F) (si := S50) ((iRow off inb).view.read (Elt F) I) hn hin) = gat T I r := by
  funext j
  unfold gatherPayload gat
  rw [read_tAll]
  refine congrArg T ?_
  funext a; apply Fin.ext
  match a with
  | 0 =>
    have hk : S50.rowMajor.symm ((j 0).cast hn.symm) = ix1 (j 0) :=
      (Equiv.symm_apply_eq _).mpr (Fin.ext (show ((S50.rowMajor (ix1 (j 0) : S50.Idx)) : ℕ) = (j 0).val from Shape.rowMajor_val_one _).symm)
    have e0 := congrArg Fin.val (Shape.Gathers.idx_axis gathers_S100000x128_S50x128 (rows (F := F) (si := S50) ((iRow off inb).view.read (Elt F) I) hn hin) j)
    refine e0.trans ?_
    have e1 : ((rows (F := F) (si := S50) ((iRow off inb).view.read (Elt F) I) hn hin) (j 0)).val
        = BitVec.toNat (at2 (F := F) (n := 128) (e := .i32) I r ⟨(j 0).val, Nat.lt_trans (j 0).isLt (by decide)⟩) := by
      show BitVec.toNat ((iRow off inb).view.read (Elt F) I (S50.rowMajor.symm ((j 0).cast hn.symm))) = _
      rw [hk]; exact congrArg BitVec.toNat (read_iRow off inb r hoff I _)
    refine e1.trans (Nat.mod_eq_of_lt ?_).symm
    rw [← e1]; exact Fin.isLt _
  | 1 => exact Shape.Gathers.idx_of_ne _ _ _ _ (by decide)

/-- No word of the list's row is out of the table's range, when none of the first fifty words of any row is. -/
def ListOK (I : S128x128.Idx → Elt F .i32) : Prop := ∀ (r : ℕ) (k : Fin 50), (BitVec.toNat (at2 (F := F) (n := 128) (e := .i32) I r ⟨k.val, by omega⟩)) < 100000

theorem inRange (off : Fin 2 → ℕ) (inb) (r : ℕ) (hoff : off = ![r, 0]) (I : S128x128.Idx → Elt F .i32) (hI : ListOK I) (x : S50.Idx) :
    ((iRow off inb).view.read (Elt F) I x).toNat < S100000x128.size gathers_S100000x128_S50x128.axis := by
  rw [read_iRow off inb r hoff]; exact hI r (x 0)

/-! ## The buffer's two states -/

section Slot

variable (d : Dev nD) (c : Fin τ.nSC) (i : Fin τ.nSub)
variable (bf : Memref sig .scVector .vmem S50x128 .f32) (sem : DmaSem sig) (q qo : PosShare TreeShare)
variable (T : S100000x128.Idx → Elt F .f32) (I : S128x128.Idx → Elt F .i32)

/-- The buffer holds something. -/
def Any : sProp 𝕄 := iprop(∃ f : Buf (Elt F) (bf.view.loc (V d c i)), bf.view.loc (V d c i) ↦[bf.view.set]{fullShare} f)

/-- The buffer holds the table's rows that the list's row `r` names. -/
def Full (r : ℕ) : sProp 𝕄 :=
  iprop(∃ f : Buf (Elt F) (bf.view.loc (V d c i)), ⌜bf.view.read (Elt F) f = gat T I r⌝ ∗ bf.view.loc (V d c i) ↦[bf.view.set]{fullShare} f)

/-- The buffer's read share of the table. -/
abbrev tSh : sProp 𝕄 := tAll.view.loc (V d c i) ↦[tAll.view.set]{q} (T : Buf (Elt F) (tAll.view.loc (V d c i)))

/-- The buffer's read share of the fetched index list. -/
abbrev iSh : sProp 𝕄 := iV.view.loc (V d c i) ↦{qo} (I : Buf (Elt F) (iV.view.loc (V d c i)))

/-- Nothing in flight: the buffer, its shares and its semaphore at zero. -/
def Free : sProp 𝕄 := iprop(Any (F := F) d c i bf ∗ tSh d c i q T ∗ iSh d c i qo I ∗ semVal (V d c i, SemLoc.dma sem) 0)

/-- The gather of the list's row `r` is in flight into the buffer. -/
def Fly (r : ℕ) : sProp 𝕄 :=
  iprop(∃ Z : Finset S128x128.Idx, Transfers.Flight countersEmb (V d c i) (SemLoc.dma sem) (default : HIx 1) bf.view.dmaCredit
      iprop(Full d c i bf T I r ∗ tSh d c i q T ∗ iV.view.loc (V d c i) ↦[Z]{qo} (I : Buf (Elt F) (iV.view.loc (V d c i))))
    ∗ iV.view.loc (V d c i) ↦[Finset.univ \ Z]{qo} (I : Buf (Elt F) (iV.view.loc (V d c i))))

variable [FloatOps F] {α : Type}
variable {k : PUnit → Prog (TpuEff nD τ sig (Elt F) Λ₀ (V d c i).2) α} {Q : α → sProp (MT nD τ sig (HIx 1) (Elt F) ℕ UU ℕ)}

/-- Starting the gather of the list's row `r`. -/
theorem wp_start (off : Fin 2 → ℕ) (inb) (r : ℕ) (hoff : off = ![r, 0]) (hI : ListOK I)
    (hN : ∀ h : S100000x128.Gathers 0 S50x128, ∑ j, (bf.slice (S50x128.rowRect h.axis' j) (S50x128.stride_rowRect h.axis' j)).view.dmaCredit = bf.view.dmaCredit)
    (h₁ h₂ h₃ h₄) (h₅ : S50.numel = S50x128.size gathers_S100000x128_S50x128.axis') (h₆ : (V d c i).2.kind = .scVector) :
    Free d c i bf sem q qo T I
      ⊢ iprop((Fly d c i bf sem q qo T I r -∗ wp frame (wpE (defs₀ (F := F)) 𝒱₀ (V d c i) none) Set.univ (k ⟨⟩) Q)
          -∗ wp frame (wpE (defs₀ (F := F)) 𝒱₀ (V d c i) none) Set.univ
            (SparseCore.enqueueIndirectGather h₆ tAll bf gathers_S100000x128_S50x128 (iRow off inb) h₅ sem h₁ h₂ h₃ h₄ >>= k) Q) := by
  unfold Free Any
  iintro ⟨⟨%f, Hb⟩, Ht, Hi, Hs⟩ Hk
  ihave Hi' := (pointsTo_split_subset (q := qo) (f := I) (S := Finset.univ) (Finset.subset_univ (iRow off inb).view.set)).1 $$ Hi
  icases Hi' with ⟨Hi, Hir⟩
  iapply (SparseCore.wp_indirectGatherLocal countersEmb 𝒱₀ (V d c i) none (hg := gathers_S100000x128_S50x128) (default : HIx 1)
      bf.view.dmaCredit (hN _) (by decide) (inRange off inb r hoff I hI)) $$ [Hb Ht Hi Hs]
  · isplitl [Ht]; · iexact Ht
    isplitl [Hb]; · iexact Hb
    isplitl [Hi]; · iexact Hi
    iexact Hs
  iintro Hfl
  iapply Hk
  unfold Fly
  iexists (iRow off inb).view.set
  isplitl [Hfl]
  · iapply (Transfers.Flight_mono countersEmb (V d c i) ?_) $$ Hfl
    iintro ⟨Hb, Ht, Hi⟩
    isplitl [Hb]
    · unfold Full
      iexists _
      isplitr
      swap; · iexact Hb
      ipureintro
      rw [View.read_write_univ, payload_eq off inb r hoff]
    isplitl [Ht]; · iexact Ht
    iexact Hi
  · iexact Hir

/-- The state of a buffer whose next row is `n`: the gather of row `n` in flight, or nothing when the list has no row `n`. -/
def Next (n : ℕ) : sProp 𝕄 := if n < 128 then Fly d c i bf sem q qo T I n else Free d c i bf sem q qo T I

/-- Starting the gather of the list's row `n` under a condition that says the list has one. -/
theorem wp_cond {cond : BitVec 1} (off : Fin 2 → ℕ) (inb : cond = 1#1 → ∀ a, off a + S1x50.size a ≤ S128x128.size a) (n : ℕ) (hc : cond = 1#1 ↔ n < 128)
    (hoff : off = ![n, 0]) (hI : ListOK I)
    (hN : ∀ h : S100000x128.Gathers 0 S50x128, ∑ j, (bf.slice (S50x128.rowRect h.axis' j) (S50x128.stride_rowRect h.axis' j)).view.dmaCredit = bf.view.dmaCredit)
    (h₁ h₂ h₃ h₄) (h₅ : S50.numel = S50x128.size gathers_S100000x128_S50x128.axis') (h₆ : (V d c i).2.kind = .scVector) :
    Free d c i bf sem q qo T I
      ⊢ iprop((Next d c i bf sem q qo T I n -∗ wp frame (wpE (defs₀ (F := F)) 𝒱₀ (V d c i) none) Set.univ (k ⟨⟩) Q)
          -∗ wp frame (wpE (defs₀ (F := F)) 𝒱₀ (V d c i) none) Set.univ
            (dite (cond = 1#1) (fun h => SparseCore.enqueueIndirectGather h₆ tAll bf gathers_S100000x128_S50x128 (iRow off (inb h)) h₅ sem h₁ h₂ h₃ h₄ >>= k)
              fun _ => k ⟨⟩) Q) := by
  by_cases h : cond = 1#1
  · rw [dif_pos h, Next, if_pos (hc.mp h)]
    exact wp_start d c i bf sem q qo T I off (inb h) n hoff hI hN h₁ h₂ h₃ h₄ h₅ h₆
  · rw [dif_neg h, Next, if_neg (fun hn => h (hc.mpr hn))]
    iintro HF Hk
    iapply Hk $$ HF

/-- What a wait for a gather hands back beside the buffer: the shares and the semaphore. -/
def Held : sProp 𝕄 := iprop(tSh d c i q T ∗ iSh d c i qo I ∗ semVal (V d c i, SemLoc.dma sem) 0)

/-- What the task owes, with the waits it has recorded so far: those it came with, and waits of its own. -/
def OW (O : CellTallies nD τ sig (HIx 1)) (W : Waits sig (HIx 1)) : sProp 𝕄 :=
  iprop(∃ W' : Waits sig (HIx 1), ⌜∀ p ∈ W', p ∈ W ∨ p.2 = none⌝ ∗ owes (V d c i) O W')

variable (O : CellTallies nD τ sig (HIx 1)) (W : Waits sig (HIx 1))

/-- Recording one more wait of its own. -/
theorem OW_insert {W' : Waits sig (HIx 1)} (hW : ∀ p ∈ W', p ∈ W ∨ p.2 = none) (s : SemLoc sig) :
    (owes (V d c i) O (insert (s, (default : HIx 1)) W') : sProp 𝕄) ⊢ iprop(∃ W' : Waits sig (HIx 1), ⌜∀ p ∈ W', p ∈ W ∨ p.2 = none⌝ ∗ owes (V d c i) O W') := by
  iintro HO
  iexists _
  isplitr
  swap; · iexact HO
  ipureintro
  intro p hp
  rcases Finset.mem_insert.mp hp with rfl | hp
  · exact .inr rfl
  · exact hW p hp

/-- Waiting for the gather of row `r`: the buffer holds the gathered rows, and the shares and the semaphore are back. -/
theorem wp_take (r : ℕ) (hr : r < 128) (h₁ : tAll.view.WordExact) (h₂ : bf.view.WordExact) :
    iprop(Next d c i bf sem q qo T I r ∗ OW d c i O W ∗ Transfers.MayWaits (V d c i) (default : HIx 1) O)
      ⊢ iprop((iprop(Full d c i bf T I r ∗ Held d c i sem q qo T I ∗ OW d c i O W)
            -∗ wp frame (wpE (defs₀ (F := F)) 𝒱₀ (V d c i) none) Set.univ (k ⟨⟩) Q)
          -∗ wp frame (wpE (defs₀ (F := F)) 𝒱₀ (V d c i) none) Set.univ
            ((SparseCore.waitIndirectGather sem tAll bf h₁ h₂ : Prog (TpuEff nD τ sig (Elt F) Λ₀ (V d c i).2) PUnit) >>= k) Q) := by
  rw [Next, if_pos hr]
  unfold Fly OW Held
  iintro ⟨⟨%Z, Hfl, Hir⟩, ⟨%W', %hW, HO⟩, Hmw⟩ Hk
  iapply (Transfers.wp_waitLocalO countersEmb 𝒱₀ (V d c i) none (default : HIx 1) (rfl : bf.view.dmaCredit = _)) $$ [Hfl HO Hmw]
  · isplitl [Hfl]; · iexact Hfl
    isplitl [HO]; · iexact HO
    iapply (Transfers.MayWaits.elim (SemLoc.dma sem)) $$ Hmw
  iintro ⟨⟨Hb, Ht, Hi⟩, Hs, HO⟩
  iapply Hk
  isplitl [Hb]; · iexact Hb
  isplitl [Ht Hi Hir Hs]
  · isplitl [Ht]; · iexact Ht
    isplitl [Hi Hir]
    · iapply (pointsTo_split_subset (q := qo) (f := I) (S := Finset.univ) (Finset.subset_univ Z)).2
      isplitl [Hi] <;> iassumption
    iexact Hs
  · iapply (OW_insert d c i O W hW _); iexact HO

variable (m : (ℓ : Loc nD τ sig) → Buf (Elt F) ℓ) (TP : (d : Dev nD) → Buf (Elt F) (tLoc d) → Prop)

/-- Row `R` of the gathered array, holding something; -/
abbrev todo (R : ℕ) : sProp 𝕄 := iprop(∃ f : Buf (Elt F) (oLoc d), oLoc d ↦[oRow R]{fullShare} f)
/-- and holding what it should. -/
abbrev done (R : ℕ) : sProp 𝕄 := iprop(∃ f : Buf (Elt F) (oLoc d), ⌜∀ j ∈ oRow R, OutOK m TP d f j⌝ ∗ oLoc d ↦[oRow R]{fullShare} f)

/-- The list's rows are rows `base + r` of the index array. -/
def ListIs (base : ℕ) (I : S128x128.Idx → Elt F .i32) : Prop :=
  ∀ (r : ℕ) (k : Fin 50), r < 128 → at2 (F := F) (n := 128) (e := .i32) I r ⟨k.val, by omega⟩
    = (m (xLoc d) : S4096x50.Idx → Elt F .i32) (ix2 (Fin.ofNat 4096 (base + r)) k)

/-- The task's 128 rows of the gathered array, the first `n` of them done. -/
def Out (base n : ℕ) : sProp 𝕄 :=
  bigSep Finset.univ fun r : Fin 128 => if r.val < n then done d m TP (base + r.val) else todo d (base + r.val)

/-- Row `n` taken out to be done. -/
theorem Out_take (base n : ℕ) (hn : n < 128) :
    Out d m TP base n ⊢ iprop(todo d (base + n) ∗ (done d m TP (base + n) -∗ Out d m TP base (n + 1))) := by
  unfold Out
  rw [SparseCore.bigSep_erase' (Finset.mem_univ (⟨n, hn⟩ : Fin 128)), SparseCore.bigSep_erase' (Finset.mem_univ (⟨n, hn⟩ : Fin 128)),
    if_neg (Nat.lt_irrefl _), if_pos (Nat.lt_succ_self _)]
  have hrest : ∀ r ∈ Finset.univ.erase (⟨n, hn⟩ : Fin 128), (if r.val < n then done d m TP (base + r.val) else todo d (base + r.val))
      = (if r.val < n + 1 then done d m TP (base + r.val) else todo d (base + r.val)) := fun r hr => by
    have hne : r.val ≠ n := fun h => (Finset.mem_erase.mp hr).1 (Fin.ext h)
    by_cases h : r.val < n
    · rw [if_pos h, if_pos (by omega)]
    · rw [if_neg h, if_neg (by omega)]
  rw [bigSep_congr hrest]
  iintro ⟨Ht, Hr⟩
  isplitl [Ht]; · iexact Ht
  iintro Hd
  isplitl [Hd] <;> iassumption

/-- The copy of the buffer to its row is in flight. -/
def Copy (rsem : DmaSem sig) (base r : ℕ) (N : ℕ) : sProp 𝕄 :=
  iprop(Transfers.Flight countersEmb (V d c i) (SemLoc.dma rsem) (default : HIx 1) N iprop(Any (F := F) d c i bf ∗ done d m TP (base + r))
    ∗ (done d m TP (base + r) -∗ Out d m TP base (r + 1)))

/-- Starting the copy of the buffer out to its row. -/
theorem wp_copy (off : Fin 3 → ℕ) (inb) (base r : ℕ) (hr : r < 128) (hoff : off = ![base + r, 0, 0]) (hT : TP d T) (hI : ListIs d m base I)
    (rsem : DmaSem sig) (h₁ : bf.view.WordExact) (h₂ : (oRowV off inb).view.WordExact) (h₃) :
    iprop(Full d c i bf T I r ∗ Out d m TP base r ∗ semVal (V d c i, SemLoc.dma rsem) 0)
      ⊢ iprop((Copy d c i bf m TP rsem base r (oRowV off inb).view.dmaCredit -∗ wp frame (wpE (defs₀ (F := F)) 𝒱₀ (V d c i) none) Set.univ (k ⟨⟩) Q)
          -∗ wp frame (wpE (defs₀ (F := F)) 𝒱₀ (V d c i) none) Set.univ
            ((Prog.lift (.enqueueDma bf (.here (oRowV off inb)) (.dma rsem) h₁ h₂ h₃) : Prog (TpuEff nD τ sig (Elt F) Λ₀ (V d c i).2) PUnit) >>= k) Q) := by
  unfold Full
  iintro ⟨⟨%f, %hf, Hb⟩, Hout, Hs⟩ Hk
  ihave Hout' := (Out_take d m TP base r hr) $$ Hout
  icases Hout' with ⟨⟨%g, Ho⟩, Hout⟩
  have hset := set_oRowV off inb (base + r) hoff
  ihave Ho' := (Entails.of_eq (show (oLoc d ↦[oRow (base + r)]{fullShare} g : sProp 𝕄)
      = (oRowV off inb).view.loc (V d c i) ↦[(oRowV off inb).view.set]{fullShare} g by rw [hset])) $$ Ho
  iapply (Transfers.wp_dmaLocal countersEmb 𝒱₀ (V d c i) none (default : HIx 1) (oRowV off inb).view.dmaCredit rfl (View.dmaCredit_pos _ (by decide))
    (Finset.Subset.refl _)) $$ [Hb Ho' Hs]
  · isplitl [Hb]; · iexact Hb
    isplitl [Ho']; · iexact Ho'
    iexact Hs
  iintro Hfl
  iapply Hk
  unfold Copy
  isplitl [Hfl]
  swap; · iexact Hout
  iapply (Transfers.Flight_mono countersEmb (V d c i) ?_) $$ Hfl
  iintro ⟨Ho, Hb⟩
  isplitl [Hb]; · unfold Any; iexists _; iexact Hb
  iexists _
  isplitr
  swap
  · iapply (Entails.of_eq (show (oLoc d ↦[oRow (base + r)]{fullShare} _ : sProp 𝕄)
      = (oRowV off inb).view.loc (V d c i) ↦[(oRowV off inb).view.set]{fullShare} _ by rw [hset]).symm)
    iexact Ho
  ipureintro
  intro j hj
  rw [← hset] at hj
  obtain ⟨x, -, rfl⟩ := Finset.mem_map.mp hj
  refine ⟨T, hT, ?_⟩
  refine (View.write_emb_of_mem _ _ (Finset.mem_univ x)).trans ((cast_eq _ _).trans ?_)
  rw [emb_oRowV off inb (base + r) hoff]
  refine (congrFun hf x).trans ?_
  unfold gat
  exact congrArg (fun w => at2 (F := F) (n := 100000) (e := .f32) T (BitVec.toNat w) (x 1)) (hI r (x 0) hr)

/-- Waiting for the copy: the row holds what it should, and the buffer is free again. -/
theorem wp_land (off : Fin 3 → ℕ) (inb) (base r : ℕ) (rsem : DmaSem sig) (h₄ : bf.view.WordExact) (h₅ : (oRowV off inb).view.WordExact) :
    iprop(Copy d c i bf m TP rsem base r (oRowV off inb).view.dmaCredit ∗ Held d c i sem q qo T I ∗ OW d c i O W
        ∗ Transfers.MayWaits (V d c i) (default : HIx 1) O)
      ⊢ iprop((iprop(Free d c i bf sem q qo T I ∗ Out d m TP base (r + 1) ∗ semVal (V d c i, SemLoc.dma rsem) 0 ∗ OW d c i O W)
            -∗ wp frame (wpE (defs₀ (F := F)) 𝒱₀ (V d c i) none) Set.univ (k ⟨⟩) Q)
          -∗ wp frame (wpE (defs₀ (F := F)) 𝒱₀ (V d c i) none) Set.univ
            ((Prog.lift (.waitDma2 rsem bf (oRowV off inb) h₄ h₅) : Prog (TpuEff nD τ sig (Elt F) Λ₀ (V d c i).2) PUnit) >>= k) Q) := by
  unfold Copy OW Held Free
  iintro ⟨⟨Hfl, Hout⟩, ⟨Ht, Hi, Hsem⟩, ⟨%W', %hW, HO⟩, Hmw⟩ Hk
  iapply (Transfers.wp_waitLocalO countersEmb 𝒱₀ (V d c i) none (default : HIx 1) (rfl : (oRowV off inb).view.dmaCredit = _)) $$ [Hfl HO Hmw]
  · isplitl [Hfl]; · iexact Hfl
    isplitl [HO]; · iexact HO
    iapply (Transfers.MayWaits.elim (SemLoc.dma rsem)) $$ Hmw
  iintro ⟨⟨Hb, Ho⟩, Hs, HO⟩
  iapply Hk
  isplitl [Hb Ht Hi Hsem]
  · isplitl [Hb]; · iexact Hb
    isplitl [Ht]; · iexact Ht
    isplitl [Hi]; · iexact Hi
    iexact Hsem
  isplitl [Ho Hout]; · iapply Hout $$ Ho
  isplitl [Hs]; · iexact Hs
  iapply (OW_insert d c i O W hW _); iexact HO

end Slot

end Cert.Proof.K

end
-- ==== Proof.Tile.lean ====
/-
  A task: the fetch of its index rows, the first seven gathers, and sixteen trips of eight rows each, in which every
  row's gather is waited for, copied out, and the buffer seven rows ahead is set going.
-/
module

public import proofs.«01_k».proof.Proof.Slots

@[expose] public section

set_option maxRecDepth 16384

noncomputable section

namespace Cert.Proof.K

open Cert.KernelIdeal Cert.KernelIdeal.Gen

open Idealize.ShloMosaic
open Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers and semaphores by name -/

abbrev b0 : Memref sig .scVector .vmem S50x128 .f32 := Memref.whole cc1_scratch1
abbrev b1 : Memref sig .scVector .vmem S50x128 .f32 := Memref.whole cc1_scratch2
abbrev b2 : Memref sig .scVector .vmem S50x128 .f32 := Memref.whole cc1_scratch3
abbrev b3 : Memref sig .scVector .vmem S50x128 .f32 := Memref.whole cc1_scratch4
abbrev b4 : Memref sig .scVector .vmem S50x128 .f32 := Memref.whole cc1_scratch5
abbrev b5 : Memref sig .scVector .vmem S50x128 .f32 := Memref.whole cc1_scratch6
abbrev b6 : Memref sig .scVector .vmem S50x128 .f32 := Memref.whole cc1_scratch7
abbrev b7 : Memref sig .scVector .vmem S50x128 .f32 := Memref.whole cc1_scratch8

section Tile

variable (d : Dev nD) (L : grid1.Coords)

/-- The task's SparseCore and its tile. -/
abbrev cV (L : grid1.Coords) : Fin τ.nSC := (L 0).castLE hcore1
abbrev jV (L : grid1.Coords) : Fin τ.nSub := (L 1).castLE hsub1
/-- The first of the task's 128 rows. -/
abbrev rV (L : grid1.Coords) : ℕ := 256 * (L 1).val + 128 * (L 0).val

variable (m : (ℓ : Loc nD τ sig) → Buf (Elt F) ℓ) (TP : (d : Dev nD) → Buf (Elt F) (tLoc d) → Prop)
  (q qo : PosShare TreeShare) (Tb : S100000x128.Idx → Elt F .f32) (I : (j : S128x128.Idx) → Elt F .i32)

/-! ## The eight slots: a buffer, its semaphore and its shares of the table and of the index rows -/

abbrev Nx0 (n : ℕ) : sProp 𝕄 := Next d (cV L) (jV L) b0 cc1_scratch9.sem (Transfers.shareTokN q 0) (Transfers.shareTokN qo 0) Tb I n
abbrev Fr0 : sProp 𝕄 := Free d (cV L) (jV L) b0 cc1_scratch9.sem (Transfers.shareTokN q 0) (Transfers.shareTokN qo 0) Tb I
/-- The semaphore of the copies out of buffer 0, at rest. -/
abbrev Rs0 : sProp 𝕄 := semVal (V d (cV L) (jV L), SemLoc.dma cc1_scoped1.sem) 0
abbrev Nx1 (n : ℕ) : sProp 𝕄 := Next d (cV L) (jV L) b1 cc1_scratch10.sem (Transfers.shareTokN q 1) (Transfers.shareTokN qo 1) Tb I n
abbrev Fr1 : sProp 𝕄 := Free d (cV L) (jV L) b1 cc1_scratch10.sem (Transfers.shareTokN q 1) (Transfers.shareTokN qo 1) Tb I
/-- The semaphore of the copies out of buffer 1, at rest. -/
abbrev Rs1 : sProp 𝕄 := semVal (V d (cV L) (jV L), SemLoc.dma cc1_scoped2.sem) 0
abbrev Nx2 (n : ℕ) : sProp 𝕄 := Next d (cV L) (jV L) b2 cc1_scratch11.sem (Transfers.shareTokN q 2) (Transfers.shareTokN qo 2) Tb I n
abbrev Fr2 : sProp 𝕄 := Free d (cV L) (jV L) b2 cc1_scratch11.sem (Transfers.shareTokN q 2) (Transfers.shareTokN qo 2) Tb I
/-- The semaphore of the copies out of buffer 2, at rest. -/
abbrev Rs2 : sProp 𝕄 := semVal (V d (cV L) (jV L), SemLoc.dma cc1_scoped3.sem) 0
abbrev Nx3 (n : ℕ) : sProp 𝕄 := Next d (cV L) (jV L) b3 cc1_scratch12.sem (Transfers.shareTokN q 3) (Transfers.shareTokN qo 3) Tb I n
abbrev Fr3 : sProp 𝕄 := Free d (cV L) (jV L) b3 cc1_scratch12.sem (Transfers.shareTokN q 3) (Transfers.shareTokN qo 3) Tb I
/-- The semaphore of the copies out of buffer 3, at rest. -/
abbrev Rs3 : sProp 𝕄 := semVal (V d (cV L) (jV L), SemLoc.dma cc1_scoped4.sem) 0
abbrev Nx4 (n : ℕ) : sProp 𝕄 := Next d (cV L) (jV L) b4 cc1_scratch13.sem (Transfers.shareTokN q 4) (Transfers.shareTokN qo 4) Tb I n
abbrev Fr4 : sProp 𝕄 := Free d (cV L) (jV L) b4 cc1_scratch13.sem (Transfers.shareTokN q 4) (Transfers.shareTokN qo 4) Tb I
/-- The semaphore of the copies out of buffer 4, at rest. -/
abbrev Rs4 : sProp 𝕄 := semVal (V d (cV L) (jV L), SemLoc.dma cc1_scoped5.sem) 0
abbrev Nx5 (n : ℕ) : sProp 𝕄 := Next d (cV L) (jV L) b5 cc1_scratch14.sem (Transfers.shareTokN q 5) (Transfers.shareTokN qo 5) Tb I n
abbrev Fr5 : sProp 𝕄 := Free d (cV L) (jV L) b5 cc1_scratch14.sem (Transfers.shareTokN q 5) (Transfers.shareTokN qo 5) Tb I
/-- The semaphore of the copies out of buffer 5, at rest. -/
abbrev Rs5 : sProp 𝕄 := semVal (V d (cV L) (jV L), SemLoc.dma cc1_scoped6.sem) 0
abbrev Nx6 (n : ℕ) : sProp 𝕄 := Next d (cV L) (jV L) b6 cc1_scratch15.sem (Transfers.shareTokN q 6) (Transfers.shareTokN qo 6) Tb I n
abbrev Fr6 : sProp 𝕄 := Free d (cV L) (jV L) b6 cc1_scratch15.sem (Transfers.shareTokN q 6) (Transfers.shareTokN qo 6) Tb I
/-- The semaphore of the copies out of buffer 6, at rest. -/
abbrev Rs6 : sProp 𝕄 := semVal (V d (cV L) (jV L), SemLoc.dma cc1_scoped7.sem) 0
abbrev Nx7 (n : ℕ) : sProp 𝕄 := Next d (cV L) (jV L) b7 cc1_scratch16.sem (Transfers.shareTokN q 7) (Transfers.shareTokN qo 7) Tb I n
abbrev Fr7 : sProp 𝕄 := Free d (cV L) (jV L) b7 cc1_scratch16.sem (Transfers.shareTokN q 7) (Transfers.shareTokN qo 7) Tb I
/-- The semaphore of the copies out of buffer 7, at rest. -/
abbrev Rs7 : sProp 𝕄 := semVal (V d (cV L) (jV L), SemLoc.dma cc1_scoped8.sem) 0

/-- A gather credits its semaphore, row by row, what the whole buffer counts. -/
theorem credit0 : ∀ h : S100000x128.Gathers 0 S50x128, ∑ j, (b0.slice (S50x128.rowRect h.axis' j) (S50x128.stride_rowRect h.axis' j)).view.dmaCredit = b0.view.dmaCredit := by decide
theorem credit1 : ∀ h : S100000x128.Gathers 0 S50x128, ∑ j, (b1.slice (S50x128.rowRect h.axis' j) (S50x128.stride_rowRect h.axis' j)).view.dmaCredit = b1.view.dmaCredit := by decide
theorem credit2 : ∀ h : S100000x128.Gathers 0 S50x128, ∑ j, (b2.slice (S50x128.rowRect h.axis' j) (S50x128.stride_rowRect h.axis' j)).view.dmaCredit = b2.view.dmaCredit := by decide
theorem credit3 : ∀ h : S100000x128.Gathers 0 S50x128, ∑ j, (b3.slice (S50x128.rowRect h.axis' j) (S50x128.stride_rowRect h.axis' j)).view.dmaCredit = b3.view.dmaCredit := by decide
theorem credit4 : ∀ h : S100000x128.Gathers 0 S50x128, ∑ j, (b4.slice (S50x128.rowRect h.axis' j) (S50x128.stride_rowRect h.axis' j)).view.dmaCredit = b4.view.dmaCredit := by decide
theorem credit5 : ∀ h : S100000x128.Gathers 0 S50x128, ∑ j, (b5.slice (S50x128.rowRect h.axis' j) (S50x128.stride_rowRect h.axis' j)).view.dmaCredit = b5.view.dmaCredit := by decide
theorem credit6 : ∀ h : S100000x128.Gathers 0 S50x128, ∑ j, (b6.slice (S50x128.rowRect h.axis' j) (S50x128.stride_rowRect h.axis' j)).view.dmaCredit = b6.view.dmaCredit := by decide
theorem credit7 : ∀ h : S100000x128.Gathers 0 S50x128, ∑ j, (b7.slice (S50x128.rowRect h.axis' j) (S50x128.stride_rowRect h.axis' j)).view.dmaCredit = b7.view.dmaCredit := by decide

/-! ## When a trip starts the next gather -/

theorem cond0 : ∀ k : Fin k1_t1_loop.trips, k1_cond1 k = 1#1 ↔ 8 * k.val + 7 < 128 := by decide +kernel
theorem cond1 : ∀ k : Fin k1_t1_loop.trips, k1_cond2 k = 1#1 ↔ 8 * k.val + 8 < 128 := by decide +kernel
theorem cond2 : ∀ k : Fin k1_t1_loop.trips, k1_cond3 k = 1#1 ↔ 8 * k.val + 9 < 128 := by decide +kernel
theorem cond3 : ∀ k : Fin k1_t1_loop.trips, k1_cond4 k = 1#1 ↔ 8 * k.val + 10 < 128 := by decide +kernel
theorem cond4 : ∀ k : Fin k1_t1_loop.trips, k1_cond5 k = 1#1 ↔ 8 * k.val + 11 < 128 := by decide +kernel
theorem cond5 : ∀ k : Fin k1_t1_loop.trips, k1_cond6 k = 1#1 ↔ 8 * k.val + 12 < 128 := by decide +kernel
theorem cond6 : ∀ k : Fin k1_t1_loop.trips, k1_cond7 k = 1#1 ↔ 8 * k.val + 13 < 128 := by decide +kernel
theorem cond7 : ∀ k : Fin k1_t1_loop.trips, k1_cond8 k = 1#1 ↔ 8 * k.val + 14 < 128 := by decide +kernel

theorem trips_lt : ∀ k : Fin k1_t1_loop.trips, 8 * k.val + 7 < 128 := by decide +kernel

variable (O : CellTallies nD τ sig (HIx 1)) (W : Waits sig (HIx 1))

/-- Between trips: the first seven slots set going (while the list has rows for them), the last one free, the first `8 * k` rows done. -/
def Inv (k : ℕ) : sProp 𝕄 :=
  iprop(Nx0 d L q qo Tb I (8 * k + 0) ∗ Nx1 d L q qo Tb I (8 * k + 1) ∗ Nx2 d L q qo Tb I (8 * k + 2) ∗ Nx3 d L q qo Tb I (8 * k + 3) ∗ Nx4 d L q qo Tb I (8 * k + 4) ∗ Nx5 d L q qo Tb I (8 * k + 5) ∗ Nx6 d L q qo Tb I (8 * k + 6)
    ∗ Fr7 d L q qo Tb I ∗ Out d m TP (rV L) (8 * k)
    ∗ Rs0 d L ∗ Rs1 d L ∗ Rs2 d L ∗ Rs3 d L ∗ Rs4 d L ∗ Rs5 d L ∗ Rs6 d L ∗ Rs7 d L
    ∗ OW d (cV L) (jV L) O W)

variable [FloatOps F]

/-- One trip of the task's loop. -/
abbrev trip (v2 : BitVec 32) := k1_t1_body (F := F) L tV (Memref.isWhole_whole _) pV (Memref.isWhole_whole _) oV (Memref.isWhole_whole _) iV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc1_scratch9 cc1_scratch10 cc1_scratch11 cc1_scratch12 cc1_scratch13 cc1_scratch14 cc1_scratch15 cc1_scratch16 cc1_scoped0 cc1_scoped1 cc1_scoped2 cc1_scoped3 cc1_scoped4 cc1_scoped5 cc1_scoped6 cc1_scoped7 cc1_scoped8 v2

set_option maxHeartbeats 4000000 in
/-- One trip: each of its eight rows is waited for, copied out and the copy waited for; before each wait the buffer
seven rows ahead is set going, while the list has a row for it. -/
theorem wp_trip (hT : TP d Tb) (hL : ListIs d m (rV L) I) (hI : ListOK I) (v2 : BitVec 32) (k : Fin k1_t1_loop.trips) (v : BitVec 32) :
    iprop((Transfers.MayWaits (V d (cV L) (jV L)) (default : HIx 1) O : sProp 𝕄) ∗ Inv d L m TP q qo Tb I O W k.val)
      ⊢ wp frame (wpE (defs₀ (F := F)) 𝒱₀ (V d (cV L) (jV L)) none) Set.univ (trip (F := F) L v2 k v)
          fun _ => iprop((Transfers.MayWaits (V d (cV L) (jV L)) (default : HIx 1) O : sProp 𝕄) ∗ Inv d L m TP q qo Tb I O W (k.val + 1)) := by
  have hk := trips_lt k
  unfold trip k1_t1_body
  simp only [k1_part1_eq_skeleton, k1_part2_eq_skeleton, k1_part3_eq_skeleton, k1_part4_eq_skeleton, k1_part5_eq_skeleton]
  unfold Inv
  iintro ⟨#Hmw, ⟨HF0, HF1, HF2, HF3, HF4, HF5, HF6, HF7, HO, HR0, HR1, HR2, HR3, HR4, HR5, HR6, HR7, HW⟩⟩
  -- part 1
  rw [wp_bind]
  unfold k1_part1_skel
  simp only [bind_assoc, pure_bind]
  iapply (wp_cond d (cV L) (jV L) b7 cc1_scratch16.sem (Transfers.shareTokN q 7) (Transfers.shareTokN qo 7) Tb I _ _ (8 * k.val + 7) (cond0 k)
    (k1_off2_eq k) hI credit7) $$ HF7
  iintro HF7
  iapply (wp_take d (cV L) (jV L) b0 cc1_scratch9.sem (Transfers.shareTokN q 0) (Transfers.shareTokN qo 0) Tb I O W (8 * k.val + 0) (by omega)) $$ [HF0 HW]
  · isplitl [HF0]; · iexact HF0
    isplitl [HW]; · iexact HW
    iexact Hmw
  iintro ⟨HF0, HH, HW⟩
  iapply (wp_copy d (cV L) (jV L) b0 Tb I m TP _ _ (rV L) (8 * k.val + 0) (by omega) ((k1_off4_eq L k 0).trans (by rw [Nat.add_assoc]; rfl)) hT hL cc1_scoped1.sem) $$ [HF0 HO HR0]
  · isplitl [HF0]; · iexact HF0
    isplitl [HO]; · iexact HO
    iexact HR0
  iintro HC
  iapply (wp_land d (cV L) (jV L) b0 cc1_scratch9.sem (Transfers.shareTokN q 0) (Transfers.shareTokN qo 0) Tb I O W m TP _ _ (rV L) (8 * k.val + 0) cc1_scoped1.sem) $$ [HC HH HW]
  · isplitl [HC]; · iexact HC
    isplitl [HH]; · iexact HH
    isplitl [HW]; · iexact HW
    iexact Hmw
  iintro ⟨HF0, HO, HR0, HW⟩
  iapply (wp_cond d (cV L) (jV L) b0 cc1_scratch9.sem (Transfers.shareTokN q 0) (Transfers.shareTokN qo 0) Tb I _ _ (8 * k.val + 8) (cond1 k)
    (k1_off5_eq k) hI credit0) $$ HF0
  iintro HF0
  rw [wp_pure]; imodintro
  -- part 2
  rw [wp_bind]
  unfold k1_part2_skel
  simp only [bind_assoc, pure_bind]
  iapply (wp_take d (cV L) (jV L) b1 cc1_scratch10.sem (Transfers.shareTokN q 1) (Transfers.shareTokN qo 1) Tb I O W (8 * k.val + 1) (by omega)) $$ [HF1 HW]
  · isplitl [HF1]; · iexact HF1
    isplitl [HW]; · iexact HW
    iexact Hmw
  iintro ⟨HF1, HH, HW⟩
  iapply (wp_copy d (cV L) (jV L) b1 Tb I m TP _ _ (rV L) (8 * k.val + 1) (by omega) ((k1_off4_eq L k 1).trans (by rw [Nat.add_assoc]; rfl)) hT hL cc1_scoped2.sem) $$ [HF1 HO HR1]
  · isplitl [HF1]; · iexact HF1
    isplitl [HO]; · iexact HO
    iexact HR1
  iintro HC
  iapply (wp_land d (cV L) (jV L) b1 cc1_scratch10.sem (Transfers.shareTokN q 1) (Transfers.shareTokN qo 1) Tb I O W m TP _ _ (rV L) (8 * k.val + 1) cc1_scoped2.sem) $$ [HC HH HW]
  · isplitl [HC]; · iexact HC
    isplitl [HH]; · iexact HH
    isplitl [HW]; · iexact HW
    iexact Hmw
  iintro ⟨HF1, HO, HR1, HW⟩
  iapply (wp_cond d (cV L) (jV L) b1 cc1_scratch10.sem (Transfers.shareTokN q 1) (Transfers.shareTokN qo 1) Tb I _ _ (8 * k.val + 9) (cond2 k)
    (k1_off6_eq k) hI credit1) $$ HF1
  iintro HF1
  iapply (wp_take d (cV L) (jV L) b2 cc1_scratch11.sem (Transfers.shareTokN q 2) (Transfers.shareTokN qo 2) Tb I O W (8 * k.val + 2) (by omega)) $$ [HF2 HW]
  · isplitl [HF2]; · iexact HF2
    isplitl [HW]; · iexact HW
    iexact Hmw
  iintro ⟨HF2, HH, HW⟩
  iapply (wp_copy d (cV L) (jV L) b2 Tb I m TP _ _ (rV L) (8 * k.val + 2) (by omega) ((k1_off4_eq L k 2).trans (by rw [Nat.add_assoc]; rfl)) hT hL cc1_scoped3.sem) $$ [HF2 HO HR2]
  · isplitl [HF2]; · iexact HF2
    isplitl [HO]; · iexact HO
    iexact HR2
  iintro HC
  rw [wp_pure]; imodintro
  -- part 3
  rw [wp_bind]
  unfold k1_part3_skel
  simp only [bind_assoc, pure_bind]
  iapply (wp_land d (cV L) (jV L) b2 cc1_scratch11.sem (Transfers.shareTokN q 2) (Transfers.shareTokN qo 2) Tb I O W m TP _ _ (rV L) (8 * k.val + 2) cc1_scoped3.sem) $$ [HC HH HW]
  · isplitl [HC]; · iexact HC
    isplitl [HH]; · iexact HH
    isplitl [HW]; · iexact HW
    iexact Hmw
  iintro ⟨HF2, HO, HR2, HW⟩
  iapply (wp_cond d (cV L) (jV L) b2 cc1_scratch11.sem (Transfers.shareTokN q 2) (Transfers.shareTokN qo 2) Tb I _ _ (8 * k.val + 10) (cond3 k)
    (k1_off7_eq k) hI credit2) $$ HF2
  iintro HF2
  iapply (wp_take d (cV L) (jV L) b3 cc1_scratch12.sem (Transfers.shareTokN q 3) (Transfers.shareTokN qo 3) Tb I O W (8 * k.val + 3) (by omega)) $$ [HF3 HW]
  · isplitl [HF3]; · iexact HF3
    isplitl [HW]; · iexact HW
    iexact Hmw
  iintro ⟨HF3, HH, HW⟩
  iapply (wp_copy d (cV L) (jV L) b3 Tb I m TP _ _ (rV L) (8 * k.val + 3) (by omega) ((k1_off4_eq L k 3).trans (by rw [Nat.add_assoc]; rfl)) hT hL cc1_scoped4.sem) $$ [HF3 HO HR3]
  · isplitl [HF3]; · iexact HF3
    isplitl [HO]; · iexact HO
    iexact HR3
  iintro HC
  iapply (wp_land d (cV L) (jV L) b3 cc1_scratch12.sem (Transfers.shareTokN q 3) (Transfers.shareTokN qo 3) Tb I O W m TP _ _ (rV L) (8 * k.val + 3) cc1_scoped4.sem) $$ [HC HH HW]
  · isplitl [HC]; · iexact HC
    isplitl [HH]; · iexact HH
    isplitl [HW]; · iexact HW
    iexact Hmw
  iintro ⟨HF3, HO, HR3, HW⟩
  rw [wp_pure]; imodintro
  -- part 4
  rw [wp_bind]
  unfold k1_part4_skel
  simp only [bind_assoc, pure_bind]
  iapply (wp_cond d (cV L) (jV L) b3 cc1_scratch12.sem (Transfers.shareTokN q 3) (Transfers.shareTokN qo 3) Tb I _ _ (8 * k.val + 11) (cond4 k)
    (k1_off8_eq k) hI credit3) $$ HF3
  iintro HF3
  iapply (wp_take d (cV L) (jV L) b4 cc1_scratch13.sem (Transfers.shareTokN q 4) (Transfers.shareTokN qo 4) Tb I O W (8 * k.val + 4) (by omega)) $$ [HF4 HW]
  · isplitl [HF4]; · iexact HF4
    isplitl [HW]; · iexact HW
    iexact Hmw
  iintro ⟨HF4, HH, HW⟩
  iapply (wp_copy d (cV L) (jV L) b4 Tb I m TP _ _ (rV L) (8 * k.val + 4) (by omega) ((k1_off4_eq L k 4).trans (by rw [Nat.add_assoc]; rfl)) hT hL cc1_scoped5.sem) $$ [HF4 HO HR4]
  · isplitl [HF4]; · iexact HF4
    isplitl [HO]; · iexact HO
    iexact HR4
  iintro HC
  iapply (wp_land d (cV L) (jV L) b4 cc1_scratch13.sem (Transfers.shareTokN q 4) (Transfers.shareTokN qo 4) Tb I O W m TP _ _ (rV L) (8 * k.val + 4) cc1_scoped5.sem) $$ [HC HH HW]
  · isplitl [HC]; · iexact HC
    isplitl [HH]; · iexact HH
    isplitl [HW]; · iexact HW
    iexact Hmw
  iintro ⟨HF4, HO, HR4, HW⟩
  iapply (wp_cond d (cV L) (jV L) b4 cc1_scratch13.sem (Transfers.shareTokN q 4) (Transfers.shareTokN qo 4) Tb I _ _ (8 * k.val + 12) (cond5 k)
    (k1_off9_eq k) hI credit4) $$ HF4
  iintro HF4
  iapply (wp_take d (cV L) (jV L) b5 cc1_scratch14.sem (Transfers.shareTokN q 5) (Transfers.shareTokN qo 5) Tb I O W (8 * k.val + 5) (by omega)) $$ [HF5 HW]
  · isplitl [HF5]; · iexact HF5
    isplitl [HW]; · iexact HW
    iexact Hmw
  iintro ⟨HF5, HH, HW⟩
  rw [wp_pure]; imodintro
  -- part 5
  rw [wp_bind]
  unfold k1_part5_skel
  simp only [bind_assoc, pure_bind]
  iapply (wp_copy d (cV L) (jV L) b5 Tb I m TP _ _ (rV L) (8 * k.val + 5) (by omega) ((k1_off4_eq L k 5).trans (by rw [Nat.add_assoc]; rfl)) hT hL cc1_scoped6.sem) $$ [HF5 HO HR5]
  · isplitl [HF5]; · iexact HF5
    isplitl [HO]; · iexact HO
    iexact HR5
  iintro HC
  iapply (wp_land d (cV L) (jV L) b5 cc1_scratch14.sem (Transfers.shareTokN q 5) (Transfers.shareTokN qo 5) Tb I O W m TP _ _ (rV L) (8 * k.val + 5) cc1_scoped6.sem) $$ [HC HH HW]
  · isplitl [HC]; · iexact HC
    isplitl [HH]; · iexact HH
    isplitl [HW]; · iexact HW
    iexact Hmw
  iintro ⟨HF5, HO, HR5, HW⟩
  iapply (wp_cond d (cV L) (jV L) b5 cc1_scratch14.sem (Transfers.shareTokN q 5) (Transfers.shareTokN qo 5) Tb I _ _ (8 * k.val + 13) (cond6 k)
    (k1_off10_eq k) hI credit5) $$ HF5
  iintro HF5
  iapply (wp_take d (cV L) (jV L) b6 cc1_scratch15.sem (Transfers.shareTokN q 6) (Transfers.shareTokN qo 6) Tb I O W (8 * k.val + 6) (by omega)) $$ [HF6 HW]
  · isplitl [HF6]; · iexact HF6
    isplitl [HW]; · iexact HW
    iexact Hmw
  iintro ⟨HF6, HH, HW⟩
  iapply (wp_copy d (cV L) (jV L) b6 Tb I m TP _ _ (rV L) (8 * k.val + 6) (by omega) ((k1_off4_eq L k 6).trans (by rw [Nat.add_assoc]; rfl)) hT hL cc1_scoped7.sem) $$ [HF6 HO HR6]
  · isplitl [HF6]; · iexact HF6
    isplitl [HO]; · iexact HO
    iexact HR6
  iintro HC
  iapply (wp_land d (cV L) (jV L) b6 cc1_scratch15.sem (Transfers.shareTokN q 6) (Transfers.shareTokN qo 6) Tb I O W m TP _ _ (rV L) (8 * k.val + 6) cc1_scoped7.sem) $$ [HC HH HW]
  · isplitl [HC]; · iexact HC
    isplitl [HH]; · iexact HH
    isplitl [HW]; · iexact HW
    iexact Hmw
  iintro ⟨HF6, HO, HR6, HW⟩
  rw [wp_pure]; imodintro
  -- the last row
  iapply (wp_cond d (cV L) (jV L) b6 cc1_scratch15.sem (Transfers.shareTokN q 6) (Transfers.shareTokN qo 6) Tb I _ _ (8 * k.val + 14) (cond7 k)
    (k1_off11_eq k) hI credit6) $$ HF6
  iintro HF6
  iapply (wp_take d (cV L) (jV L) b7 cc1_scratch16.sem (Transfers.shareTokN q 7) (Transfers.shareTokN qo 7) Tb I O W (8 * k.val + 7) (by omega)) $$ [HF7 HW]
  · isplitl [HF7]; · iexact HF7
    isplitl [HW]; · iexact HW
    iexact Hmw
  iintro ⟨HF7, HH, HW⟩
  iapply (wp_copy d (cV L) (jV L) b7 Tb I m TP _ _ (rV L) (8 * k.val + 7) (by omega) ((k1_off4_eq L k 7).trans (by rw [Nat.add_assoc]; rfl)) hT hL cc1_scoped8.sem) $$ [HF7 HO HR7]
  · isplitl [HF7]; · iexact HF7
    isplitl [HO]; · iexact HO
    iexact HR7
  iintro HC
  iapply (wp_land d (cV L) (jV L) b7 cc1_scratch16.sem (Transfers.shareTokN q 7) (Transfers.shareTokN qo 7) Tb I O W m TP _ _ (rV L) (8 * k.val + 7) cc1_scoped8.sem) $$ [HC HH HW]
  · isplitl [HC]; · iexact HC
    isplitl [HH]; · iexact HH
    isplitl [HW]; · iexact HW
    iexact Hmw
  iintro ⟨HF7, HO, HR7, HW⟩
  rw [wp_pure]; imodintro
  isplitr; · iexact Hmw
  isplitl [HF0]; · iexact HF0
  isplitl [HF1]; · iexact HF1
  isplitl [HF2]; · iexact HF2
  isplitl [HF3]; · iexact HF3
  isplitl [HF4]; · iexact HF4
  isplitl [HF5]; · iexact HF5
  isplitl [HF6]; · iexact HF6
  isplitl [HF7]; · iexact HF7
  isplitl [HO]; · iexact HO
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  iexact HW

end Tile

end Cert.Proof.K

end
-- ==== Proof.TileBody.lean ====
/-
  A whole task: the fetch of its index rows, the first seven gathers, and the sixteen trips.
-/
module

public import proofs.«01_k».proof.Proof.Tile

@[expose] public section

set_option maxRecDepth 16384

noncomputable section

namespace Cert.Proof.K

open Cert.KernelIdeal Cert.KernelIdeal.Gen

open Idealize.ShloMosaic
open Idealize.ShloMosaic.ValueIdx
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Taking a list of members out of an iterated conjunction -/

theorem bigSep_list {ι : Type} [DecidableEq ι] {M : Type} [URA M] (Φ : ι → sProp M) :
    ∀ (l : List ι) (s : Finset ι), l.Nodup → (∀ x ∈ l, x ∈ s) →
      bigSep s Φ = l.foldr (fun x P => iprop(Φ x ∗ P)) (bigSep (l.foldl Finset.erase s) Φ)
  | [], _, _, _ => rfl
  | a :: l, s, hl, hs => by
    rw [SparseCore.bigSep_erase' (hs a (List.mem_cons_self ..))]
    have hl' := List.nodup_cons.mp hl
    rw [bigSep_list Φ l (s.erase a) hl'.2 fun x hx => Finset.mem_erase.mpr ⟨fun e => hl'.1 (e ▸ hx), hs x (List.mem_cons_of_mem _ hx)⟩]
    rfl

section Task

variable (d : Dev nD) (L : grid1.Coords)

/-- The semaphores the task uses. -/
def semList : List (DmaSem sig) :=
  [cc1_scratch9.sem, cc1_scratch10.sem, cc1_scratch11.sem, cc1_scratch12.sem, cc1_scratch13.sem, cc1_scratch14.sem, cc1_scratch15.sem, cc1_scratch16.sem,
    cc1_scoped0.sem, cc1_scoped1.sem, cc1_scoped2.sem, cc1_scoped3.sem, cc1_scoped4.sem, cc1_scoped5.sem, cc1_scoped6.sem, cc1_scoped7.sem, cc1_scoped8.sem]

/-- The scratch buffers the task uses. -/
def bufList : List (Ref sig .scVector) :=
  [cc1_scratch0, cc1_scratch1, cc1_scratch2, cc1_scratch3, cc1_scratch4, cc1_scratch5, cc1_scratch6, cc1_scratch7, cc1_scratch8]

/-- The subcore's other semaphores and buffers. -/
def semRest : sProp 𝕄 :=
  bigSep ((semList.map fun s => ((V d (cV L) (jV L), SemLoc.dma s) : GSem nD τ sig)).foldl Finset.erase (ownCells (V d (cV L) (jV L)))) fun g => semVal g 0
def bufRest : sProp 𝕄 :=
  bigSep ((bufList.map fun b => (Proc.scVector (cV L) (jV L) : Proc τ).devRef b).foldl Finset.erase (ownRefs (τ := τ) (.scVector (cV L) (jV L))))
          fun b => iprop(∃ f, ((d, b) : Loc nD τ sig) ↦{fullShare} f)

theorem ownSems0_list : (ownSems0 (V d (cV L) (jV L)) : sProp 𝕄)
    = (semList.map fun s => ((V d (cV L) (jV L), SemLoc.dma s) : GSem nD τ sig)).foldr (fun g P => iprop(semVal g 0 ∗ P))
        (semRest d L) := by
  unfold SparseCore.Cfg.ownSems0
  refine bigSep_list _ _ _ (List.Nodup.map (fun a b h => SemLoc.dma.inj (Prod.mk.inj h).2) (by decide)) fun g hg => ?_
  obtain ⟨s, hs, rfl⟩ := List.mem_map.mp hg
  exact mem_ownCells.mpr ⟨rfl, (show ∀ s ∈ semList, (SemLoc.dma s : SemLoc sig).isScoped .scVector = true by decide) s hs⟩

theorem bufList_nodup : bufList.Nodup := by decide

theorem ownBufs_list : (ownBufs (V d (cV L) (jV L)) : sProp 𝕄)
    = (bufList.map fun b => (Proc.scVector (cV L) (jV L) : Proc τ).devRef b).foldr
        (fun b P => iprop((∃ f, ((d, b) : Loc nD τ sig) ↦{fullShare} f) ∗ P))
        (bufRest d L) := by
  unfold SparseCore.Cfg.ownBufs
  refine bigSep_list _ _ _ (List.Nodup.map (Proc.devRef_injective _) bufList_nodup) fun g hg => ?_
  obtain ⟨s, hs, rfl⟩ := List.mem_map.mp hg
  have key : ∀ s ∈ bufList, (Proc.scVector (cV L) (jV L) : Proc τ).devRef s ∈ ownRefs (τ := τ) (.scVector (cV L) (jV L)) := by
    intro s hs
    simp only [bufList, List.mem_cons, List.not_mem_nil, _root_.or_false] at hs
    rcases hs with rfl | rfl | rfl | rfl | rfl | rfl | rfl | rfl | rfl <;> exact SparseCore.Cfg.mem_ownRefs_of_owner rfl
  exact key s hs

/-! ## The fetch of the task's index rows -/

variable (m : (ℓ : Loc nD τ sig) → Buf (Elt F) ℓ) (TP : (d : Dev nD) → Buf (Elt F) (tLoc d) → Prop)
variable (O : CellTallies nD τ sig (HIx 1)) (W : Waits sig (HIx 1))

/-- The task's rows of the padded index array. -/
abbrev pRows : Memref sig .scVector .hbm S128x128 .i32 :=
  pV.slice (Rect.unit (s := S4096x128) (k1_off1 L) S128x128.size (k1_off1_inb L)) (fun _ => rfl)

theorem emb_pRows (j : S128x128.Idx) :
    (pRows L).view.emb j = (ix2 (Fin.ofNat 4096 (rV L + (j 0).val)) (j 1) : S4096x128.Idx) := by
  have h0 : (k1_off1 L) 0 = rV L := congrFun (k1_off1_eq L) 0
  have h1 : (k1_off1 L) 1 = 0 := congrFun (k1_off1_eq L) 1
  have hb : rV L + 128 ≤ 4096 := h0 ▸ k1_off1_inb L 0
  have hj : (j 0).val < 128 := (j 0).isLt
  funext a; apply Fin.ext
  match a with
  | 0 =>
    show (k1_off1 L) 0 + 1 * (j 0).val = (rV L + (j 0).val) % 4096
    rw [h0, Nat.one_mul, Nat.mod_eq_of_lt (by omega)]
  | 1 =>
    show (k1_off1 L) 1 + 1 * (j 1).val = (j 1).val
    rw [h1, Nat.one_mul, Nat.zero_add]

theorem read_pRows (X : S4096x128.Idx → Elt F .i32) (j : S128x128.Idx) :
    (pRows L).view.read (Elt F) X j = X (ix2 (Fin.ofNat 4096 (rV L + (j 0).val)) (j 1)) :=
  ((View.read_apply _ _).trans (cast_eq _ _)).trans (congrArg X (emb_pRows L j))

variable [FloatOps F] {α : Type}
variable {k : PUnit → Prog (TpuEff nD τ sig (Elt F) Λ₀ (V d (cV L) (jV L)).2) α} {Q : α → sProp (MT nD τ sig (HIx 1) (Elt F) ℕ UU ℕ)}

/-- The fetch of the task's index rows and its wait: the list is the index array's rows, each word a row of the table. -/
theorem wp_fetch (hpre : PreOK m) (qx : PosShare TreeShare) (X : S4096x128.Idx → Elt F .i32) (hX : PadOK m d X) (h₁ h₂ h₃ h₄ h₅) :
    iprop((pV.view.loc (V d (cV L) (jV L)) ↦{qx} (X : Buf (Elt F) (pV.view.loc (V d (cV L) (jV L)))))
        ∗ (∃ f : Buf (Elt F) (iV.view.loc (V d (cV L) (jV L))), iV.view.loc (V d (cV L) (jV L)) ↦{fullShare} f)
        ∗ semVal (V d (cV L) (jV L), SemLoc.dma cc1_scoped0.sem) 0 ∗ OW d (cV L) (jV L) O W
        ∗ Transfers.MayWaits (V d (cV L) (jV L)) (default : HIx 1) O)
      ⊢ iprop((iprop(∃ I : S128x128.Idx → Elt F .i32, ⌜ListIs d m (rV L) I ∧ ListOK I⌝
              ∗ (iV.view.loc (V d (cV L) (jV L)) ↦{fullShare} (I : Buf (Elt F) (iV.view.loc (V d (cV L) (jV L)))))
              ∗ semVal (V d (cV L) (jV L), SemLoc.dma cc1_scoped0.sem) 0 ∗ OW d (cV L) (jV L) O W)
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            ((Prog.lift (.enqueueDma (pRows L) (.here iV) (.dma cc1_scoped0.sem) h₁ h₂ h₃) : Prog (TpuEff nD τ sig (Elt F) Λ₀ (V d (cV L) (jV L)).2) PUnit)
              >>= fun _ => Prog.lift (.waitDma2 cc1_scoped0.sem (pRows L) iV h₄ h₅) >>= k) Q) := by
  unfold OW
  iintro ⟨Hp, ⟨%f, Hi⟩, Hs, ⟨%W', %hW, HO⟩, Hmw⟩ Hk
  have hset : iV.view.set = (Finset.univ : Finset S128x128.Idx) := View.set_whole _
  ihave Hps := (pointsTo_split_subset (q := qx) (f := X) (S := Finset.univ) (Finset.subset_univ (pRows L).view.set)).1 $$ Hp
  icases Hps with ⟨Hp, -⟩
  ihave Hi' := (Entails.of_eq (show (iV.view.loc (V d (cV L) (jV L)) ↦{fullShare} f : sProp 𝕄)
      = iV.view.loc (V d (cV L) (jV L)) ↦[iV.view.set]{fullShare} f by rw [hset])) $$ Hi
  iapply (Transfers.wp_dmaLocal countersEmb 𝒱₀ (V d (cV L) (jV L)) none (default : HIx 1) iV.view.dmaCredit rfl (View.dmaCredit_pos _ (by decide))
    (Finset.Subset.refl _)) $$ [Hp Hi' Hs]
  · isplitl [Hp]; · iexact Hp
    isplitl [Hi']; · iexact Hi'
    iexact Hs
  iintro Hfl
  iapply (Transfers.wp_waitLocalO countersEmb 𝒱₀ (V d (cV L) (jV L)) none (default : HIx 1) (rfl : iV.view.dmaCredit = _)) $$ [Hfl HO Hmw]
  · isplitl [Hfl]; · iexact Hfl
    isplitl [HO]; · iexact HO
    iapply (Transfers.MayWaits.elim (SemLoc.dma cc1_scoped0.sem)) $$ Hmw
  iintro ⟨⟨Hi, -⟩, Hs, HO⟩
  iapply Hk
  have hI : ∀ j : S128x128.Idx, (View.write (Elt F) iV.view f ((pRows L).view.read (Elt F) X) Finset.univ : S128x128.Idx → Elt F .i32) j
      = X (ix2 (Fin.ofNat 4096 (rV L + (j 0).val)) (j 1)) := fun j =>
    (congrFun (View.write_whole_univ _ _ _) j).trans (read_pRows L X j)
  have hlist : ListIs d m (rV L) (View.write (Elt F) iV.view f ((pRows L).view.read (Elt F) X) Finset.univ : S128x128.Idx → Elt F .i32) := by
    intro r k hr
    refine (hI _).trans ?_
    have e : ((ix2 (Fin.ofNat 128 r) (⟨k.val, by omega⟩ : Fin 128) : S128x128.Idx) 0).val = r := Nat.mod_eq_of_lt hr
    rw [e]
    exact hX (Fin.ofNat 4096 (rV L + r)) k
  iexists (View.write (Elt F) iV.view f ((pRows L).view.read (Elt F) X) Finset.univ : S128x128.Idx → Elt F .i32)
  isplitr
  · ipureintro
    refine ⟨hlist, fun r k => ?_⟩
    have e := hlist (r % 128) k (Nat.mod_lt _ (by decide))
    have e' : (ix2 (Fin.ofNat 128 r) (⟨k.val, by omega⟩ : Fin 128) : S128x128.Idx) = ix2 (Fin.ofNat 128 (r % 128)) ⟨k.val, by omega⟩ :=
      congrArg (fun x : Fin 128 => (ix2 x (⟨k.val, by omega⟩ : Fin 128) : S128x128.Idx)) (Fin.ext (Nat.mod_mod r 128).symm)
    show BitVec.toNat ((View.write (Elt F) iV.view f ((pRows L).view.read (Elt F) X) Finset.univ : S128x128.Idx → Elt F .i32)
      (ix2 (Fin.ofNat 128 r) (⟨k.val, by omega⟩ : Fin 128))) < 100000
    rw [e']
    exact (congrArg BitVec.toNat e).trans_lt (hpre d _)
  isplitl [Hi]
  · iapply (Entails.of_eq (show (iV.view.loc (V d (cV L) (jV L)) ↦[iV.view.set]{fullShare} _ : sProp 𝕄)
      = iV.view.loc (V d (cV L) (jV L)) ↦{fullShare} _ by rw [hset]))
    iexact Hi
  isplitl [Hs]; · iexact Hs
  iapply (OW_insert d (cV L) (jV L) O W hW _); iexact HO

/-! ## The task -/

omit [FloatOps F] in
/-- A buffer, its shares and its semaphore make a free slot. -/
theorem free_of (bf : Memref sig .scVector .vmem S50x128 .f32) (b : Ref sig .scVector)
    (hl : bf.view.loc (V d (cV L) (jV L)) = ((d, (Proc.scVector (cV L) (jV L) : Proc τ).devRef b) : Loc nD τ sig)) (hs : bf.view.set = Finset.univ)
    (sem : DmaSem sig) (q qo : PosShare TreeShare) (Tb : S100000x128.Idx → Elt F .f32) (I : S128x128.Idx → Elt F .i32) :
    iprop((∃ f, ((d, (Proc.scVector (cV L) (jV L) : Proc τ).devRef b) : Loc nD τ sig) ↦{fullShare} f)
      ∗ tSh d (cV L) (jV L) q Tb ∗ iSh d (cV L) (jV L) qo I ∗ semVal (V d (cV L) (jV L), SemLoc.dma sem) 0)
    ⊢ (Free d (cV L) (jV L) bf sem q qo Tb I : sProp 𝕄) := by
  unfold Free Any
  rw [hs, ← hl]

omit [FloatOps F] in
/-- A free slot gives them back. -/
theorem of_free (bf : Memref sig .scVector .vmem S50x128 .f32) (b : Ref sig .scVector)
    (hl : bf.view.loc (V d (cV L) (jV L)) = ((d, (Proc.scVector (cV L) (jV L) : Proc τ).devRef b) : Loc nD τ sig)) (hs : bf.view.set = Finset.univ)
    (sem : DmaSem sig) (q qo : PosShare TreeShare) (Tb : S100000x128.Idx → Elt F .f32) (I : S128x128.Idx → Elt F .i32) :
    (Free d (cV L) (jV L) bf sem q qo Tb I : sProp 𝕄)
    ⊢ iprop((∃ f, ((d, (Proc.scVector (cV L) (jV L) : Proc τ).devRef b) : Loc nD τ sig) ↦{fullShare} f)
      ∗ tSh d (cV L) (jV L) q Tb ∗ iSh d (cV L) (jV L) qo I ∗ semVal (V d (cV L) (jV L), SemLoc.dma sem) 0) := by
  unfold Free Any
  rw [hs, ← hl]

omit [FloatOps F] in
/-- A share of a buffer is eight read tokens of it and what remains. -/
theorem toks8 {ℓ : Loc nD τ sig} (S : Finset (Idx ℓ)) (q : PosShare TreeShare) (f : Buf (Elt F) ℓ) :
    (ℓ ↦[S]{q} f : sProp 𝕄) ⊣⊢ iprop((ℓ ↦[S]{Transfers.shareDrop q 8} f) ∗ (ℓ ↦[S]{Transfers.shareTokN q 0} f) ∗ (ℓ ↦[S]{Transfers.shareTokN q 1} f) ∗ (ℓ ↦[S]{Transfers.shareTokN q 2} f) ∗ (ℓ ↦[S]{Transfers.shareTokN q 3} f) ∗ (ℓ ↦[S]{Transfers.shareTokN q 4} f) ∗ (ℓ ↦[S]{Transfers.shareTokN q 5} f) ∗ (ℓ ↦[S]{Transfers.shareTokN q 6} f) ∗ (ℓ ↦[S]{Transfers.shareTokN q 7} f)) := by
  have h := Transfers.pointsTo_toks_range (Ix := HIx 1) (Name := ℕ) (U := UU) (Lvl := ℕ) (ℓ := ℓ) (S := S) (f := f) q 8
  rw [show Finset.range 8 = ({0, 1, 2, 3, 4, 5, 6, 7} : Finset ℕ) by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact h

omit [FloatOps F] in
theorem Out_zero (base : ℕ) : (bigSep Finset.univ fun r : Fin 128 => todo (F := F) d (base + r.val)) ⊢ (Out d m TP base 0 : sProp 𝕄) := by
  unfold Out
  exact Entails.of_eq (bigSep_congr fun r _ => (if_neg (Nat.not_lt_zero _)).symm)

omit [FloatOps F] in
theorem Out_all (base : ℕ) : Out d m TP base 128 ⊢ (bigSep Finset.univ fun r : Fin 128 => done d m TP (base + r.val) : sProp 𝕄) := by
  unfold Out
  exact Entails.of_eq (bigSep_congr fun r _ => if_pos r.isLt)

/-- What a task is handed: some table that `TP` holds of and some padded index array, its shares of them, and its rows. -/
def Go (qt qx : PosShare TreeShare) (base : ℕ) : sProp 𝕄 :=
  iprop(∃ (Tb : Buf (Elt F) (tLoc d)) (X : Buf (Elt F) (pLoc d)), ⌜TP d Tb ∧ PadOK m d X⌝ ∗ (tLoc d ↦{qt} Tb) ∗ (pLoc d ↦{qx} X)
    ∗ bigSep Finset.univ fun r : Fin 128 => todo (F := F) d (base + r.val))

/-- What it hands back: its rows, done. -/
def Td (base : ℕ) : sProp 𝕄 := bigSep Finset.univ fun r : Fin 128 => done d m TP (base + r.val)

set_option maxHeartbeats 4000000 in
/-- The task: its rows end holding, of the table it was handed, the rows the index array names. -/
theorem tile_body (hF : (K (F := F)).Facts) (hpre : PreOK m) (qt qx : PosShare TreeShare) (hO : ∀ g, O g none = 0) :
    iprop(levAts (K (F := F)).L (K (F := F)).lev ∗ emp ∗ Go d m TP qt qx (rV L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k (F := F) L tV (Memref.isWhole_whole _) pV (Memref.isWhole_whole _) oV (Memref.isWhole_whole _) iV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc1_scratch9 cc1_scratch10 cc1_scratch11 cc1_scratch12 cc1_scratch13 cc1_scratch14 cc1_scratch15 cc1_scratch16 cc1_scoped0 cc1_scoped1 cc1_scoped2 cc1_scoped3 cc1_scoped4 cc1_scoped5 cc1_scoped6 cc1_scoped7 cc1_scoped8)
          fun _ => iprop(Td d m TP (rV L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1_k_eq_skeleton]; unfold cc1_k_skel; rw [k1_part6_eq_skeleton]
  rw [(K (F := F)).scopedBufs_V hF d (cV L) (jV L), SparseCore.Cfg.scopedSems0_V (Val := Elt F) d (cV L) (jV L), ownSems0_list, ownBufs_list]
  simp only [semList, bufList, List.map, List.foldr]
  unfold Go Td
  iintro ⟨#Hlv, -, ⟨%Tb, %X, %hTX, HT, HX, Ho⟩, ⟨HI, HA0, HA1, HA2, HA3, HA4, HA5, HA6, HA7, Hbufs⟩, ⟨HS0, HS1, HS2, HS3, HS4, HS5, HS6, HS7, HR, HR0, HR1, HR2, HR3, HR4, HR5, HR6, HR7, Hsems⟩, HW⟩
  obtain ⟨hT, hX⟩ := hTX
  ihave #Hmw := (show levAts (K (F := F)).L (K (F := F)).lev ⊢ Transfers.MayWaits (V d (cV L) (jV L)) (default : HIx 1) O from
    (K (F := F)).mayWaits_none (thr := V d (cV L) (jV L)) hO) $$ Hlv
  ihave HO := (Out_zero d m TP (rV L)) $$ Ho
  ihave HT' := (Entails.of_eq (show (tLoc d ↦{qt} Tb : sProp 𝕄) = tAll.view.loc (V d (cV L) (jV L)) ↦[tAll.view.set]{qt} Tb by rw [set_tAll])) $$ HT
  ihave HTs := (toks8 (F := F) _ qt _).1 $$ HT'
  icases HTs with ⟨-, HT0, HT1, HT2, HT3, HT4, HT5, HT6, HT7⟩
  rw [wp_bind]
  unfold k1_part6_skel
  simp only [bind_assoc, pure_bind]
  iapply (wp_fetch d L m O W hpre qx X hX) $$ [HX HI HR HW]
  · isplitl [HX]; · iexact HX
    isplitl [HI]; · iexact HI
    isplitl [HR]; · iexact HR
    isplitl [HW]
    · unfold OW
      iexists W
      isplitr
      · ipureintro; exact fun p hp => .inl hp
      iexact HW
    iexact Hmw
  iintro ⟨%I, %hI, HI, HR, HW⟩
  obtain ⟨hL, hok⟩ := hI
  ihave HIs := (toks8 (F := F) _ fullShare _).1 $$ HI
  icases HIs with ⟨HIr, HI0, HI1, HI2, HI3, HI4, HI5, HI6, HI7⟩
  ihave HF0 := (show iprop((∃ f, ((d, (Proc.scVector (cV L) (jV L) : Proc τ).devRef cc1_scratch1) : Loc nD τ sig) ↦{fullShare} f)
      ∗ tSh d (cV L) (jV L) (Transfers.shareTokN qt 0) Tb ∗ iSh d (cV L) (jV L) (Transfers.shareTokN fullShare 0) I
      ∗ semVal (V d (cV L) (jV L), SemLoc.dma cc1_scratch9.sem) 0) ⊢ Fr0 d L qt fullShare Tb I from
    free_of d L b0 cc1_scratch1 rfl (View.set_whole _) _ _ _ Tb I) $$ [HA0 HT0 HI0 HS0]
  · isplitl [HA0]; · iexact HA0
    isplitl [HT0]; · iexact HT0
    isplitl [HI0]; · iexact HI0
    iexact HS0
  ihave HF1 := (show iprop((∃ f, ((d, (Proc.scVector (cV L) (jV L) : Proc τ).devRef cc1_scratch2) : Loc nD τ sig) ↦{fullShare} f)
      ∗ tSh d (cV L) (jV L) (Transfers.shareTokN qt 1) Tb ∗ iSh d (cV L) (jV L) (Transfers.shareTokN fullShare 1) I
      ∗ semVal (V d (cV L) (jV L), SemLoc.dma cc1_scratch10.sem) 0) ⊢ Fr1 d L qt fullShare Tb I from
    free_of d L b1 cc1_scratch2 rfl (View.set_whole _) _ _ _ Tb I) $$ [HA1 HT1 HI1 HS1]
  · isplitl [HA1]; · iexact HA1
    isplitl [HT1]; · iexact HT1
    isplitl [HI1]; · iexact HI1
    iexact HS1
  ihave HF2 := (show iprop((∃ f, ((d, (Proc.scVector (cV L) (jV L) : Proc τ).devRef cc1_scratch3) : Loc nD τ sig) ↦{fullShare} f)
      ∗ tSh d (cV L) (jV L) (Transfers.shareTokN qt 2) Tb ∗ iSh d (cV L) (jV L) (Transfers.shareTokN fullShare 2) I
      ∗ semVal (V d (cV L) (jV L), SemLoc.dma cc1_scratch11.sem) 0) ⊢ Fr2 d L qt fullShare Tb I from
    free_of d L b2 cc1_scratch3 rfl (View.set_whole _) _ _ _ Tb I) $$ [HA2 HT2 HI2 HS2]
  · isplitl [HA2]; · iexact HA2
    isplitl [HT2]; · iexact HT2
    isplitl [HI2]; · iexact HI2
    iexact HS2
  ihave HF3 := (show iprop((∃ f, ((d, (Proc.scVector (cV L) (jV L) : Proc τ).devRef cc1_scratch4) : Loc nD τ sig) ↦{fullShare} f)
      ∗ tSh d (cV L) (jV L) (Transfers.shareTokN qt 3) Tb ∗ iSh d (cV L) (jV L) (Transfers.shareTokN fullShare 3) I
      ∗ semVal (V d (cV L) (jV L), SemLoc.dma cc1_scratch12.sem) 0) ⊢ Fr3 d L qt fullShare Tb I from
    free_of d L b3 cc1_scratch4 rfl (View.set_whole _) _ _ _ Tb I) $$ [HA3 HT3 HI3 HS3]
  · isplitl [HA3]; · iexact HA3
    isplitl [HT3]; · iexact HT3
    isplitl [HI3]; · iexact HI3
    iexact HS3
  ihave HF4 := (show iprop((∃ f, ((d, (Proc.scVector (cV L) (jV L) : Proc τ).devRef cc1_scratch5) : Loc nD τ sig) ↦{fullShare} f)
      ∗ tSh d (cV L) (jV L) (Transfers.shareTokN qt 4) Tb ∗ iSh d (cV L) (jV L) (Transfers.shareTokN fullShare 4) I
      ∗ semVal (V d (cV L) (jV L), SemLoc.dma cc1_scratch13.sem) 0) ⊢ Fr4 d L qt fullShare Tb I from
    free_of d L b4 cc1_scratch5 rfl (View.set_whole _) _ _ _ Tb I) $$ [HA4 HT4 HI4 HS4]
  · isplitl [HA4]; · iexact HA4
    isplitl [HT4]; · iexact HT4
    isplitl [HI4]; · iexact HI4
    iexact HS4
  ihave HF5 := (show iprop((∃ f, ((d, (Proc.scVector (cV L) (jV L) : Proc τ).devRef cc1_scratch6) : Loc nD τ sig) ↦{fullShare} f)
      ∗ tSh d (cV L) (jV L) (Transfers.shareTokN qt 5) Tb ∗ iSh d (cV L) (jV L) (Transfers.shareTokN fullShare 5) I
      ∗ semVal (V d (cV L) (jV L), SemLoc.dma cc1_scratch14.sem) 0) ⊢ Fr5 d L qt fullShare Tb I from
    free_of d L b5 cc1_scratch6 rfl (View.set_whole _) _ _ _ Tb I) $$ [HA5 HT5 HI5 HS5]
  · isplitl [HA5]; · iexact HA5
    isplitl [HT5]; · iexact HT5
    isplitl [HI5]; · iexact HI5
    iexact HS5
  ihave HF6 := (show iprop((∃ f, ((d, (Proc.scVector (cV L) (jV L) : Proc τ).devRef cc1_scratch7) : Loc nD τ sig) ↦{fullShare} f)
      ∗ tSh d (cV L) (jV L) (Transfers.shareTokN qt 6) Tb ∗ iSh d (cV L) (jV L) (Transfers.shareTokN fullShare 6) I
      ∗ semVal (V d (cV L) (jV L), SemLoc.dma cc1_scratch15.sem) 0) ⊢ Fr6 d L qt fullShare Tb I from
    free_of d L b6 cc1_scratch7 rfl (View.set_whole _) _ _ _ Tb I) $$ [HA6 HT6 HI6 HS6]
  · isplitl [HA6]; · iexact HA6
    isplitl [HT6]; · iexact HT6
    isplitl [HI6]; · iexact HI6
    iexact HS6
  ihave HF7 := (show iprop((∃ f, ((d, (Proc.scVector (cV L) (jV L) : Proc τ).devRef cc1_scratch8) : Loc nD τ sig) ↦{fullShare} f)
      ∗ tSh d (cV L) (jV L) (Transfers.shareTokN qt 7) Tb ∗ iSh d (cV L) (jV L) (Transfers.shareTokN fullShare 7) I
      ∗ semVal (V d (cV L) (jV L), SemLoc.dma cc1_scratch16.sem) 0) ⊢ Fr7 d L qt fullShare Tb I from
    free_of d L b7 cc1_scratch8 rfl (View.set_whole _) _ _ _ Tb I) $$ [HA7 HT7 HI7 HS7]
  · isplitl [HA7]; · iexact HA7
    isplitl [HT7]; · iexact HT7
    isplitl [HI7]; · iexact HI7
    iexact HS7
  iapply (wp_start d (cV L) (jV L) b0 cc1_scratch9.sem (Transfers.shareTokN qt 0) (Transfers.shareTokN fullShare 0) Tb I _ _ 0 rfl hok credit0) $$ HF0
  iintro HF0
  iapply (wp_start d (cV L) (jV L) b1 cc1_scratch10.sem (Transfers.shareTokN qt 1) (Transfers.shareTokN fullShare 1) Tb I _ _ 1 rfl hok credit1) $$ HF1
  iintro HF1
  iapply (wp_start d (cV L) (jV L) b2 cc1_scratch11.sem (Transfers.shareTokN qt 2) (Transfers.shareTokN fullShare 2) Tb I _ _ 2 rfl hok credit2) $$ HF2
  iintro HF2
  iapply (wp_start d (cV L) (jV L) b3 cc1_scratch12.sem (Transfers.shareTokN qt 3) (Transfers.shareTokN fullShare 3) Tb I _ _ 3 rfl hok credit3) $$ HF3
  iintro HF3
  iapply (wp_start d (cV L) (jV L) b4 cc1_scratch13.sem (Transfers.shareTokN qt 4) (Transfers.shareTokN fullShare 4) Tb I _ _ 4 rfl hok credit4) $$ HF4
  iintro HF4
  rw [wp_pure]; imodintro
  iapply (wp_start d (cV L) (jV L) b5 cc1_scratch14.sem (Transfers.shareTokN qt 5) (Transfers.shareTokN fullShare 5) Tb I _ _ 5 rfl hok credit5) $$ HF5
  iintro HF5
  iapply (wp_start d (cV L) (jV L) b6 cc1_scratch15.sem (Transfers.shareTokN qt 6) (Transfers.shareTokN fullShare 6) Tb I _ _ 6 rfl hok credit6) $$ HF6
  iintro HF6
  iapply (Scf.wp_for_bind frame (wpE (defs₀ (F := F)) 𝒱₀ (V d (cV L) (jV L)) none) Set.univ _ _ _ _ _ _
    (fun n (_ : BitVec 32) => iprop((Transfers.MayWaits (V d (cV L) (jV L)) (default : HIx 1) O : sProp 𝕄) ∗ Inv d L m TP qt fullShare Tb I O W n))
    (fun k acc => wp_trip d L m TP qt fullShare Tb I O W hT hL hok _ k acc)) $$ [HF0 HF1 HF2 HF3 HF4 HF5 HF6 HF7 HO HR0 HR1 HR2 HR3 HR4 HR5 HR6 HR7 HW]
  · isplitr; · iexact Hmw
    unfold Inv
    isplitl [HF0]; · iapply (Entails.of_eq (show Fly d (cV L) (jV L) b0 cc1_scratch9.sem (Transfers.shareTokN qt 0) (Transfers.shareTokN fullShare 0) Tb I 0
        = Nx0 d L qt fullShare Tb I (8 * 0 + 0) from (if_pos (show 8 * 0 + 0 < 128 by decide)).symm)); iexact HF0
    isplitl [HF1]; · iapply (Entails.of_eq (show Fly d (cV L) (jV L) b1 cc1_scratch10.sem (Transfers.shareTokN qt 1) (Transfers.shareTokN fullShare 1) Tb I 1
        = Nx1 d L qt fullShare Tb I (8 * 0 + 1) from (if_pos (show 8 * 0 + 1 < 128 by decide)).symm)); iexact HF1
    isplitl [HF2]; · iapply (Entails.of_eq (show Fly d (cV L) (jV L) b2 cc1_scratch11.sem (Transfers.shareTokN qt 2) (Transfers.shareTokN fullShare 2) Tb I 2
        = Nx2 d L qt fullShare Tb I (8 * 0 + 2) from (if_pos (show 8 * 0 + 2 < 128 by decide)).symm)); iexact HF2
    isplitl [HF3]; · iapply (Entails.of_eq (show Fly d (cV L) (jV L) b3 cc1_scratch12.sem (Transfers.shareTokN qt 3) (Transfers.shareTokN fullShare 3) Tb I 3
        = Nx3 d L qt fullShare Tb I (8 * 0 + 3) from (if_pos (show 8 * 0 + 3 < 128 by decide)).symm)); iexact HF3
    isplitl [HF4]; · iapply (Entails.of_eq (show Fly d (cV L) (jV L) b4 cc1_scratch13.sem (Transfers.shareTokN qt 4) (Transfers.shareTokN fullShare 4) Tb I 4
        = Nx4 d L qt fullShare Tb I (8 * 0 + 4) from (if_pos (show 8 * 0 + 4 < 128 by decide)).symm)); iexact HF4
    isplitl [HF5]; · iapply (Entails.of_eq (show Fly d (cV L) (jV L) b5 cc1_scratch14.sem (Transfers.shareTokN qt 5) (Transfers.shareTokN fullShare 5) Tb I 5
        = Nx5 d L qt fullShare Tb I (8 * 0 + 5) from (if_pos (show 8 * 0 + 5 < 128 by decide)).symm)); iexact HF5
    isplitl [HF6]; · iapply (Entails.of_eq (show Fly d (cV L) (jV L) b6 cc1_scratch15.sem (Transfers.shareTokN qt 6) (Transfers.shareTokN fullShare 6) Tb I 6
        = Nx6 d L qt fullShare Tb I (8 * 0 + 6) from (if_pos (show 8 * 0 + 6 < 128 by decide)).symm)); iexact HF6
    isplitl [HF7]; · iexact HF7
    isplitl [HO]; · iexact HO
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HW
  iintro %acc ⟨-, Hinv⟩
  ihave Hinv' := (Entails.of_eq (show Inv d L m TP qt fullShare Tb I O W (Scf.trips k1_t1_loop.lb k1_t1_loop.ub k1_t1_loop.st)
    = Inv d L m TP qt fullShare Tb I O W 16 from congrArg (Inv d L m TP qt fullShare Tb I O W) (show (Scf.trips k1_t1_loop.lb k1_t1_loop.ub k1_t1_loop.st) = 16 by decide))) $$ Hinv
  unfold Inv OW
  icases Hinv' with ⟨HF0, HF1, HF2, HF3, HF4, HF5, HF6, HF7, HO, HR0, HR1, HR2, HR3, HR4, HR5, HR6, HR7, HW⟩
  ihave HF := (Entails.of_eq (show Nx0 d L qt fullShare Tb I (8 * 16 + 0) = Fr0 d L qt fullShare Tb I from if_neg (by decide))) $$ HF0
  ihave HF := (of_free d L b0 cc1_scratch1 rfl (View.set_whole _) _ _ _ Tb I) $$ HF
  icases HF with ⟨HA0, -, HI0, HS0⟩
  ihave HF := (Entails.of_eq (show Nx1 d L qt fullShare Tb I (8 * 16 + 1) = Fr1 d L qt fullShare Tb I from if_neg (by decide))) $$ HF1
  ihave HF := (of_free d L b1 cc1_scratch2 rfl (View.set_whole _) _ _ _ Tb I) $$ HF
  icases HF with ⟨HA1, -, HI1, HS1⟩
  ihave HF := (Entails.of_eq (show Nx2 d L qt fullShare Tb I (8 * 16 + 2) = Fr2 d L qt fullShare Tb I from if_neg (by decide))) $$ HF2
  ihave HF := (of_free d L b2 cc1_scratch3 rfl (View.set_whole _) _ _ _ Tb I) $$ HF
  icases HF with ⟨HA2, -, HI2, HS2⟩
  ihave HF := (Entails.of_eq (show Nx3 d L qt fullShare Tb I (8 * 16 + 3) = Fr3 d L qt fullShare Tb I from if_neg (by decide))) $$ HF3
  ihave HF := (of_free d L b3 cc1_scratch4 rfl (View.set_whole _) _ _ _ Tb I) $$ HF
  icases HF with ⟨HA3, -, HI3, HS3⟩
  ihave HF := (Entails.of_eq (show Nx4 d L qt fullShare Tb I (8 * 16 + 4) = Fr4 d L qt fullShare Tb I from if_neg (by decide))) $$ HF4
  ihave HF := (of_free d L b4 cc1_scratch5 rfl (View.set_whole _) _ _ _ Tb I) $$ HF
  icases HF with ⟨HA4, -, HI4, HS4⟩
  ihave HF := (Entails.of_eq (show Nx5 d L qt fullShare Tb I (8 * 16 + 5) = Fr5 d L qt fullShare Tb I from if_neg (by decide))) $$ HF5
  ihave HF := (of_free d L b5 cc1_scratch6 rfl (View.set_whole _) _ _ _ Tb I) $$ HF
  icases HF with ⟨HA5, -, HI5, HS5⟩
  ihave HF := (Entails.of_eq (show Nx6 d L qt fullShare Tb I (8 * 16 + 6) = Fr6 d L qt fullShare Tb I from if_neg (by decide))) $$ HF6
  ihave HF := (of_free d L b6 cc1_scratch7 rfl (View.set_whole _) _ _ _ Tb I) $$ HF
  icases HF with ⟨HA6, -, HI6, HS6⟩
  ihave HF := (of_free d L b7 cc1_scratch8 rfl (View.set_whole _) _ _ _ Tb I) $$ HF7
  icases HF with ⟨HA7, -, HI7, HS7⟩
  ihave HI := (toks8 (F := F) _ fullShare _).2 $$ [HIr HI0 HI1 HI2 HI3 HI4 HI5 HI6 HI7]
  · isplitl [HIr]; · iexact HIr
    isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    iexact HI7
  rw [wp_pure]; imodintro
  isplitl [HO]; · iapply (Out_all d m TP (rV L)); iexact HO
  isplitl [HI Hbufs HA0 HA1 HA2 HA3 HA4 HA5 HA6 HA7]
  · isplitl [HI]; · iexists _; iexact HI
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    iexact Hbufs
  isplitr [HW]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HR]; · iexact HR
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact Hsems
  iexact HW

end Task

end Cert.Proof.K

end
-- ==== Proof.Calls.lean ====
/-
  The SparseCore call as the launch theorem takes it: what each SparseCore and each task is handed and hands back, the
  tasks' obligation, and how the gathered array and the shares of the two tables split over the cores and tasks and join.
-/
module

public import proofs.«01_k».proof.Proof.TileBody
public import Idealize.ShloMosaic.Lib.SparseCore.Quiescent

@[expose] public section

set_option maxRecDepth 16384

noncomputable section

namespace Cert.Proof.K

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (TP : (d : Dev nD) → Buf (Elt F) (tLoc d) → Prop)

/-! ## What is handed over -/

/-- The first row of task `(c, i)`. -/
abbrev base (c i : ℕ) : ℕ := 256 * i + 128 * c

/-- Core `c`'s share of a table, and its task `i`'s. -/
abbrev cShare (c : Fin 2) : PosShare TreeShare := shareTok fullShare 2 c
abbrev iShare (c : Fin 2) (i : Fin 16) : PosShare TreeShare := shareTok (cShare c) 16 i

/-- What core `c` is handed: its shares of some table that `TP` holds of and of some padded index array, and its tasks' rows. -/
def St (d : Dev nD) (c : Fin 2) : sProp 𝕄 :=
  iprop(∃ (Tb : Buf (Elt F) (tLoc d)) (X : Buf (Elt F) (pLoc d)), ⌜TP d Tb ∧ PadOK m d X⌝ ∗ (tLoc d ↦{cShare c} Tb) ∗ (pLoc d ↦{cShare c} X)
    ∗ bigSep Finset.univ fun i : Fin 16 => bigSep Finset.univ fun r : Fin 128 => todo (F := F) d (base c.val i.val + r.val))

/-- What it hands back: its tasks' rows, done. -/
def Dn (d : Dev nD) (c : Fin 2) : sProp 𝕄 := bigSep Finset.univ fun i : Fin 16 => Td d m TP (base c.val i.val)

instance St_storable (d : Dev nD) (c : Fin 2) : BI.Storable (upEmb : UEmb _ 𝕄) (St m TP d c) := by unfold St; infer_instance
instance Go_storable (d : Dev nD) (q q' : PosShare TreeShare) (b : ℕ) : BI.Storable (upEmb : UEmb _ 𝕄) (Go d m TP q q' b) := by unfold Go; infer_instance
instance Td_storable (d : Dev nD) (b : ℕ) : BI.Storable (upEmb : UEmb _ 𝕄) (Td d m TP b) := by unfold Td; infer_instance
instance Dn_storable (d : Dev nD) (c : Fin 2) : BI.Storable (upEmb : UEmb _ 𝕄) (Dn m TP d c) := by unfold Dn; infer_instance

/-- The one call's payloads. -/
def P : (K (F := F)).Pay (nD := nD) (Val := Elt F) (Name := ℕ) (U := UU) where
  st := fun q d c => match q with | 0 => St m TP d (Fin.cast nCore_zero c)
  dn := fun q d c => match q with | 0 => Dn m TP d (Fin.cast nCore_zero c)
  go := fun q d c i => match q with
    | 0 => Go d m TP (iShare (Fin.cast nCore_zero c) (Fin.cast nSub_zero i)) (iShare (Fin.cast nCore_zero c) (Fin.cast nSub_zero i)) (base c.val i.val)
  td := fun q d c i => match q with | 0 => Td d m TP (base c.val i.val)
  x := fun _ _ => iprop(emp)

instance P_storable : (P (F := F) m TP).IsStorable where
  st q d c := match q with | 0 => St_storable m TP d (Fin.cast nCore_zero c)
  dn q d c := match q with | 0 => Dn_storable m TP d (Fin.cast nCore_zero c)
  go q d c i := match q with | 0 => Go_storable m TP d _ _ _
  td q d c i := match q with | 0 => Td_storable m TP d _

/-! ## The tasks -/

/-- A task's coordinates from its core and its subcore. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1_k (F := F) (coordsV c s) tV (Memref.isWhole_whole _) pV (Memref.isWhole_whole _) oV (Memref.isWhole_whole _) iV (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc1_scratch9 cc1_scratch10 cc1_scratch11 cc1_scratch12 cc1_scratch13 cc1_scratch14 cc1_scratch15 cc1_scratch16 cc1_scoped0 cc1_scoped1 cc1_scoped2 cc1_scoped3 cc1_scoped4 cc1_scoped5 cc1_scoped6 cc1_scoped7 cc1_scoped8) ⟨⟩ c s := rfl

/-- A task's waits are at the lowest index, so they are within what the launch asks. -/
theorem obl_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono Entails.rfl (sep_mono Entails.rfl (sep_mono Entails.rfl ?_))
  iintro ⟨%W', %hW', HO⟩
  iexists W'
  isplitr
  · ipureintro; exact fun p hp => (hW' p hp).imp_right Or.inl
  iexact HO

theorem tileObl [FloatOps F] (hF : (K (F := F)).Facts) (hpre : PreOK m) : (K (F := F)).TileObl (D (F := F)) 𝒱 (P m TP) v₀ 0 := by
  intro d c i O W hO _ _
  simp only [show (P m TP).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body d (coordsV ⟨_, hci.1⟩ ⟨_, hci.2⟩) m TP O W hF hpre _ _ hO).trans (wp_mono frame _ _ fun _ => obl_post)

/-! ## A core's part split over its tasks -/

/-- Each part of an iterated conjunction replaced by what it gives. -/
theorem bigSep_each {I : Type} (s : Finset I) {Φ Ψ : I → sProp (MT nD τ sig (HIx 1) (Elt F) ℕ UU ℕ)} (h : ∀ i ∈ s, Φ i ⊢ Ψ i) : bigSep s Φ ⊢ bigSep s Ψ :=
  bigSep_mono h

theorem bigSep_subs (Φ : Fin 16 → sProp (MT nD τ sig (HIx 1) (Elt F) ℕ UU ℕ)) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp (MT nD τ sig (HIx 1) (Elt F) ℕ UU ℕ)) :
    (bigSep Finset.univ fun c : Fin ((K (F := F)).nCore 0) => Φ (Fin.cast nCore_zero c)) = bigSep Finset.univ Φ :=
  bigSep_congr fun _ _ => congrArg Φ (Fin.ext rfl)

theorem go_intro (d : Dev nD) (Tb : Buf (Elt F) (tLoc d)) (X : Buf (Elt F) (pLoc d)) (h : TP d Tb ∧ PadOK m d X) (q : PosShare TreeShare) (b : ℕ) :
    iprop((tLoc d ↦{q} Tb) ∗ (pLoc d ↦{q} X) ∗ bigSep Finset.univ fun r : Fin 128 => todo (F := F) d (b + r.val)) ⊢ (Go d m TP q q b : sProp 𝕄) := by
  unfold Go
  iintro ⟨HT, HX, Ho⟩
  iexists Tb; iexists X
  isplitr; · ipureintro; exact h
  isplitl [HT]; · iexact HT
  isplitl [HX]; · iexact HX
  iexact Ho

theorem st_intro (d : Dev nD) (Tb : Buf (Elt F) (tLoc d)) (X : Buf (Elt F) (pLoc d)) (h : TP d Tb ∧ PadOK m d X) (c : Fin 2) :
    iprop((tLoc d ↦{cShare c} Tb) ∗ (pLoc d ↦{cShare c} X)
      ∗ bigSep Finset.univ fun i : Fin 16 => bigSep Finset.univ fun r : Fin 128 => todo (F := F) d (base c.val i.val + r.val)) ⊢ (St m TP d c : sProp 𝕄) := by
  unfold St
  iintro ⟨HT, HX, Ho⟩
  iexists Tb; iexists X
  isplitr; · ipureintro; exact h
  isplitl [HT]; · iexact HT
  isplitl [HX]; · iexact HX
  iexact Ho

theorem split_core (d : Dev nD) (c : Fin 2) :
    St m TP d c ⊢ bigSep Finset.univ fun i : Fin 16 => Go d m TP (iShare c i) (iShare c i) (base c.val i.val) := by
  unfold St
  iintro ⟨%Tb, %X, %h, HT, HX, Ho⟩
  ihave HT := (Transfers.pointsTo_toks_split (cShare c) 16) $$ HT
  icases HT with ⟨-, HT⟩
  ihave HX := (Transfers.pointsTo_toks_split (cShare c) 16) $$ HX
  icases HX with ⟨-, HX⟩
  ihave H := (Entails.of_eq (bigSep_sep' (s := Finset.univ)
    (Φ := fun i : Fin 16 => (pLoc d ↦{iShare c i} X : sProp 𝕄)) (Ψ := fun i : Fin 16 => bigSep Finset.univ fun r : Fin 128 => todo (F := F) d (base c.val i.val + r.val))).symm) $$ [HX Ho]
  · isplitl [HX]; · iexact HX
    iexact Ho
  ihave H := (Entails.of_eq (bigSep_sep' (s := Finset.univ)
    (Φ := fun i : Fin 16 => (tLoc d ↦{iShare c i} Tb : sProp 𝕄)) (Ψ := fun i : Fin 16 => iprop((pLoc d ↦{iShare c i} X)
      ∗ bigSep Finset.univ fun r : Fin 128 => todo (F := F) d (base c.val i.val + r.val)))).symm) $$ [HT H]
  · isplitl [HT]; · iexact HT
    iexact H
  iapply (bigSep_each Finset.univ fun (i : Fin 16) _ => go_intro m TP d Tb X h (iShare c i) (base c.val i.val)) $$ H

theorem vecSplit : (K (F := F)).VecSplit' (P m TP) 0 := by
  intro d c
  show St m TP d (Fin.cast nCore_zero c) ⊢ |={Set.univ}=> iprop(
      (bigSep Finset.univ fun i : Fin ((K (F := F)).nSub 0) =>
        (fun j : Fin 16 => Go d m TP (iShare (Fin.cast nCore_zero c) j) (iShare (Fin.cast nCore_zero c) j) (base (Fin.cast nCore_zero c).val j.val)) (Fin.cast nSub_zero i))
      ∗ ((bigSep Finset.univ fun i : Fin ((K (F := F)).nSub 0) => (fun j : Fin 16 => Td d m TP (base (Fin.cast nCore_zero c).val j.val)) (Fin.cast nSub_zero i))
          -∗ Dn m TP d (Fin.cast nCore_zero c)))
  rw [bigSep_subs (fun j : Fin 16 => Go d m TP (iShare (Fin.cast nCore_zero c) j) (iShare (Fin.cast nCore_zero c) j) (base (Fin.cast nCore_zero c).val j.val)),
    bigSep_subs (fun j : Fin 16 => Td d m TP (base (Fin.cast nCore_zero c).val j.val))]
  iintro H
  imodintro
  isplitl [H]; · iapply (split_core m TP d (Fin.cast nCore_zero c)); iexact H
  unfold Dn
  iintro H
  iexact H

/-! ## The whole split over the cores, and the rows joined -/

/-- A row's core, task and number in the task. -/
abbrev RI : Type := Fin 2 × (Fin 16 × Fin 128)
abbrev rowOf (x : RI) : ℕ := base x.1.val x.2.1.val + x.2.2.val

theorem rowOf_inj {x y : RI} (h : rowOf x = rowOf y) : x = y := by
  obtain ⟨⟨a, ha⟩, ⟨b, hb⟩, ⟨c, hc⟩⟩ := x
  obtain ⟨⟨a', ha'⟩, ⟨b', hb'⟩, ⟨c', hc'⟩⟩ := y
  have h' : 256 * b + 128 * a + c = 256 * b' + 128 * a' + c' := h
  obtain rfl : b = b' := by omega
  obtain rfl : a = a' := by omega
  obtain rfl : c = c' := by omega
  rfl

theorem rows_disjoint : ∀ x ∈ (Finset.univ : Finset RI), ∀ y ∈ (Finset.univ : Finset RI), x ≠ y → Disjoint (oRow (rowOf x)) (oRow (rowOf y)) :=
  fun x _ y _ h => Finset.disjoint_left.mpr fun j hx hy =>
    h (rowOf_inj (((Finset.mem_filter.mp hx).2).symm.trans (Finset.mem_filter.mp hy).2))

theorem rows_mem (j : S4096x50x128.Idx) : ∃ x : RI, j ∈ oRow (rowOf x) := by
  have hj : (j 0).val < 4096 := (j 0).isLt
  have h0 : (j 0).val / 128 % 2 < 2 := Nat.mod_lt _ (by omega)
  have h1 : (j 0).val / 256 < 16 := by omega
  have h2 : (j 0).val % 128 < 128 := Nat.mod_lt _ (by omega)
  have h : (j 0).val = rowOf ((⟨_, h0⟩, ⟨_, h1⟩, ⟨_, h2⟩) : RI) := by
    show (j 0).val = 256 * ((j 0).val / 256) + 128 * ((j 0).val / 128 % 2) + (j 0).val % 128
    omega
  refine ⟨((⟨_, h0⟩, ⟨_, h1⟩, ⟨_, h2⟩) : RI), ?_⟩
  unfold oRow
  exact Finset.mem_filter.mpr ⟨Finset.mem_univ j, h⟩

theorem rows_cover : (Finset.univ : Finset RI).biUnion (fun x => oRow (rowOf x)) = Finset.univ := by
  rw [Finset.eq_univ_iff_forall]
  intro j
  rw [Finset.mem_biUnion]
  obtain ⟨x, hx⟩ := rows_mem j
  exact ⟨x, Finset.mem_univ x, hx⟩

theorem rows_split (d : Dev nD) (f : Buf (Elt F) (oLoc d)) :
    (oLoc d ↦{fullShare} f : sProp 𝕄) ⊢ bigSep Finset.univ fun c : Fin 2 => bigSep Finset.univ fun i : Fin 16 => bigSep Finset.univ fun r : Fin 128 =>
      todo (F := F) d (base c.val i.val + r.val) := by
  have h : (oLoc d ↦{fullShare} f : sProp 𝕄) = bigSep (Finset.univ : Finset RI) fun x => oLoc d ↦[oRow (rowOf x)]{fullShare} f := by
    rw [← pointsTo_biUnion (Finset.univ : Finset RI) (ℓ := oLoc d) (fun x => oRow (rowOf x)) rows_disjoint, rows_cover]
  rw [h, bigSep_univ_prod]
  refine bigSep_mono fun c _ => ?_
  rw [bigSep_univ_prod]
  refine bigSep_mono fun i _ => bigSep_mono fun r _ => ?_
  show (oLoc d ↦[oRow (rowOf (c, i, r))]{fullShare} f : sProp 𝕄) ⊢ iprop(∃ f : Buf (Elt F) (oLoc d), oLoc d ↦[oRow (rowOf (c, i, r))]{fullShare} f)
  iintro H
  iexists f
  iexact H

theorem rows_join [∀ e, Nonempty (Elt F e)] (d : Dev nD) :
    (bigSep Finset.univ fun c : Fin 2 => Dn m TP d c) ⊢ (iprop(∃ f, ⌜∀ j, OutOK m TP d f j⌝ ∗ oLoc d ↦{fullShare} f) : sProp 𝕄) := by
  have h : (bigSep Finset.univ fun c : Fin 2 => Dn m TP d c) = bigSep (Finset.univ : Finset RI) fun x => done d m TP (rowOf x) := by
    rw [bigSep_univ_prod]
    refine bigSep_congr fun c _ => ?_
    rw [bigSep_univ_prod]
    rfl
  rw [h]
  refine BIBase.Entails.trans (bigSep_exists_pi Finset.univ (fun (x : RI) (f : Buf (Elt F) (oLoc d)) =>
    iprop(⌜∀ j ∈ oRow (rowOf x), OutOK m TP d f j⌝ ∗ oLoc d ↦[oRow (rowOf x)]{fullShare} f))) ?_
  iintro ⟨%fs, H⟩
  ihave H := (bigSep_pure_sep (Finset.univ : Finset RI) (fun x => ∀ j ∈ oRow (rowOf x), OutOK m TP d (fs x) j) _) $$ H
  icases H with ⟨%hfs, H⟩
  ihave H := (pointsTo_biUnion_join (ℓ := oLoc d) (q := fullShare) (Val := Elt F) (Finset.univ : Finset RI) (fun x => oRow (rowOf x)) fs (fs ⟨0, 0, 0⟩) rows_disjoint) $$ H
  icases H with ⟨%g, %hg, H⟩
  rw [rows_cover]
  iexists g
  isplitr
  · ipureintro
    intro j
    obtain ⟨x, hx⟩ := rows_mem j
    obtain ⟨T, hT, e⟩ := hfs x (Finset.mem_univ x) j hx
    exact ⟨T, hT, (hg x (Finset.mem_univ x) j hx).trans e⟩
  iexact H

/-- The table, the padded index array and the gathered array, dealt to the cores. -/
theorem st_split (d : Dev nD) (Tb : Buf (Elt F) (tLoc d)) (X : Buf (Elt F) (pLoc d)) (hT : TP d Tb) (hX : PadOK m d X) (f : Buf (Elt F) (oLoc d)) :
    iprop((tLoc d ↦{fullShare} Tb) ∗ (pLoc d ↦{fullShare} X) ∗ (oLoc d ↦{fullShare} f))
      ⊢ (bigSep Finset.univ fun c : Fin ((K (F := F)).nCore 0) => (P m TP).st 0 d c : sProp 𝕄) := by
  show _ ⊢ bigSep Finset.univ fun c : Fin ((K (F := F)).nCore 0) => (fun c' => St m TP d c') (Fin.cast nCore_zero c)
  rw [bigSep_cores]
  iintro ⟨HT, HX, Ho⟩
  ihave Ho := (rows_split d f) $$ Ho
  ihave HT := (Transfers.pointsTo_toks_split fullShare 2) $$ HT
  icases HT with ⟨-, HT⟩
  ihave HX := (Transfers.pointsTo_toks_split fullShare 2) $$ HX
  icases HX with ⟨-, HX⟩
  ihave H := (Entails.of_eq (bigSep_sep' (s := Finset.univ)
    (Φ := fun c : Fin 2 => (pLoc d ↦{cShare c} X : sProp 𝕄)) (Ψ := fun c : Fin 2 => bigSep Finset.univ fun i : Fin 16 => bigSep Finset.univ fun r : Fin 128 => todo (F := F) d (base c.val i.val + r.val))).symm) $$ [HX Ho]
  · isplitl [HX]; · iexact HX
    iexact Ho
  ihave H := (Entails.of_eq (bigSep_sep' (s := Finset.univ)
    (Φ := fun c : Fin 2 => (tLoc d ↦{cShare c} Tb : sProp 𝕄)) (Ψ := fun c : Fin 2 => iprop((pLoc d ↦{cShare c} X)
      ∗ bigSep Finset.univ fun i : Fin 16 => bigSep Finset.univ fun r : Fin 128 => todo (F := F) d (base c.val i.val + r.val)))).symm) $$ [HT H]
  · isplitl [HT]; · iexact HT
    iexact H
  iapply (bigSep_each Finset.univ fun (c : Fin 2) _ => st_intro m TP d Tb X ⟨hT, hX⟩ c) $$ H

/-- What the cores hand back, joined. -/
theorem dn_join [∀ e, Nonempty (Elt F e)] (d : Dev nD) :
    (bigSep Finset.univ fun c : Fin ((K (F := F)).nCore 0) => (P m TP).dn 0 d c)
      ⊢ (iprop(∃ f, ⌜∀ j, OutOK m TP d f j⌝ ∗ oLoc d ↦{fullShare} f) : sProp 𝕄) := by
  show (bigSep Finset.univ fun c : Fin ((K (F := F)).nCore 0) => (fun c' => Dn m TP d c') (Fin.cast nCore_zero c)) ⊢ _
  rw [bigSep_cores]
  exact rows_join m TP d

end Cert.Proof.K

end
-- ==== Proof.Main.lean ====
/-
  @main on the TensorCore — the host operations, the projection, the padded index array, the gather's call, the slice —
  and the launch: what the memory holds when every thread has finished.
-/
module

public import proofs.«01_k».proof.Proof.Host
public import proofs.«01_k».proof.Proof.Calls

@[expose] public section

set_option maxRecDepth 16384

noncomputable section

namespace Cert.Proof.K

open Cert.KernelIdeal Cert.KernelIdeal.Gen

open Idealize.ShloMosaic
open Idealize.ShloMosaic.TcCoe
open Idealize.ShloMosaic.ValueIdx
open Idealize.ShloMosaic.StableHlo
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The result array. -/
abbrev rLoc (d : Dev nD) : Loc nD τ sig := (SparseCore.T d).loc main_v7

/-! ## The arrays taken out of the unscoped buffers -/

/-- An array of the TensorCore as a buffer of the device. -/
abbrev rb (b : Ref sig .tc) : DevRef τ sig := Proc.devRef .tc b

/-- The region's four arrays, the gather's and the claims' eight, the slice's two. -/
abbrev S4 : Finset (DevRef τ sig) := {rb main_v3, rb main_v0, rb main_v2, rb main_v4}
abbrev S8 : Finset (DevRef τ sig) := {rb main_arg0, rb main_arg1, rb main_arg2, rb main_arg3, rb main_v4, rb main_v5, rb main_v6, rb main_v7}
abbrev S2 : Finset (DevRef τ sig) := {rb main_v6, rb main_v7}

theorem mem_uc (b : Ref sig .tc) (h : ¬ (rb b).isScoped) : rb b ∈ Pipeline.ucRefs τ sig :=
  Finset.mem_filter.mpr ⟨devRef_mem_tcRefs b, h⟩

theorem S4_sub : S4 ⊆ Pipeline.ucRefs τ sig := by
  intro x hx
  simp only [S4, Finset.mem_insert, Finset.mem_singleton] at hx
  rcases hx with h | h | h | h <;> rw [h] <;> exact mem_uc _ (by decide)

theorem S8_sub : S8 ⊆ Pipeline.ucRefs τ sig := by
  intro x hx
  simp only [S8, Finset.mem_insert, Finset.mem_singleton] at hx
  rcases hx with h | h | h | h | h | h | h | h <;> rw [h] <;> exact mem_uc _ (by decide)

theorem held_S4 (d : Dev nD) (W : Valuation τ sig (Elt F)) :
    (held (SparseCore.T d) S4 W : sProp 𝕄)
      = iprop(((SparseCore.T d).loc main_v3 ↦{fullShare} W (rb main_v3)) ∗ ((SparseCore.T d).loc main_v0 ↦{fullShare} W (rb main_v0))
          ∗ ((SparseCore.T d).loc main_v2 ↦{fullShare} W (rb main_v2)) ∗ tLoc d ↦{fullShare} W (rb main_v4)) := by
  unfold held S4
  rw [SparseCore.bigSep_insert' (by decide), SparseCore.bigSep_insert' (by decide), SparseCore.bigSep_insert' (by decide), bigSep_singleton]

theorem held_S8 (d : Dev nD) (W : Valuation τ sig (Elt F)) :
    (held (SparseCore.T d) S8 W : sProp 𝕄)
      = iprop((xLoc d ↦{fullShare} W (rb main_arg0)) ∗ ((SparseCore.T d).loc main_arg1 ↦{fullShare} W (rb main_arg1))
          ∗ ((SparseCore.T d).loc main_arg2 ↦{fullShare} W (rb main_arg2)) ∗ ((SparseCore.T d).loc main_arg3 ↦{fullShare} W (rb main_arg3))
          ∗ (tLoc d ↦{fullShare} W (rb main_v4)) ∗ (pLoc d ↦{fullShare} W (rb main_v5)) ∗ (oLoc d ↦{fullShare} W (rb main_v6))
          ∗ rLoc d ↦{fullShare} W (rb main_v7)) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem held_S2 (d : Dev nD) (W : Valuation τ sig (Elt F)) :
    (held (SparseCore.T d) S2 W : sProp 𝕄) = iprop((oLoc d ↦{fullShare} W (rb main_v6)) ∗ rLoc d ↦{fullShare} W (rb main_v7)) := by
  unfold held S2
  rw [SparseCore.bigSep_insert' (by decide), bigSep_singleton]

theorem opC_sub : (opC (F := F)).bufs ⊆ S2 := show ({rb main_v6, rb main_v7} : Finset (DevRef τ sig)) ⊆ S2 from subset_rfl

variable (m : (ℓ : Loc nD τ sig) → Buf (Elt F) ℓ) (ρ : Dev nD → PrngReg)

/-- The launch's unscoped buffers, held at the launch contents. -/
theorem launch_held (d : Dev nD) :
    (unscopedBufs d (fun b => m ((SparseCore.T d).loc b)) : sProp 𝕄) = held (SparseCore.T d) (Pipeline.ucRefs τ sig) (V0 m d) :=
  Pipeline.unscopedBufs_held d (V0 m d)

/-- What the TensorCore owes the SparseCores from the launch on, none of it under the base rank. -/
theorem owe_none (d : Dev nD) (g : GSem nD τ sig) : (K (F := F)).Otc d 0 g (none : HIx 1) = 0 := by
  by_contra h
  have h' := (K (F := F)).lev_of_Otc_pos (N := 1) (d := d) (n := 0) (g := g) (ι := none) (Nat.pos_of_ne_zero h)
  exact absurd (Nat.le_trans (Nat.le_add_left 1 _) h') (by show ¬ 1 ≤ 0; omega)

/-! ## @main -/

/-- The projected tables the run may hold. -/
abbrev TP (d : Dev nD) (Tb : Buf (Elt F) (tLoc d)) : Prop := TabOK (VA m) d Tb

/-- The result: the gathered array's first fifty lanes. -/
abbrev sl (d : Dev nD) (f : Buf (Elt F) (oLoc d)) : S4096x50x50.Idx → Elt F .f32 :=
  extractStridedSlice S4096x50x50 ![0, 0, 0] (f : S4096x50x128.Idx → Elt F .f32) slices_S4096x50x128_S4096x50x50_0_0_0

/-- What @main leaves the claims: the arguments at their launch contents, the result at the slice of an array whose every
    entry is the named row's of a projected table. -/
def FIN (d : Dev nD) : sProp 𝕄 :=
  iprop((xLoc d ↦{fullShare} m (xLoc d)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ∃ f, ⌜∀ j, OutOK m (TP m) d f j⌝ ∗ rLoc d ↦{fullShare} (sl (F := F) d f : Buf (Elt F) (rLoc d)))

/-- The buffers after the region: the four arrays back, the table at `Tb`, beside the rest. -/
theorem held_back (d : Dev nD) (Tb : Buf (Elt F) (tLoc d)) :
    iprop(arrs (VA m) d Tb ∗ held (SparseCore.T d) (Pipeline.ucRefs τ sig \ S4) (VA m d)) ⊢ (held (SparseCore.T d) (Pipeline.ucRefs τ sig) (VT m d Tb) : sProp 𝕄) := by
  rw [held_sub_split (SparseCore.T d) S4_sub (VT m d Tb), held_S4, VT_v4, VT_ne m d Tb _ (by decide), VT_ne m d Tb _ (by decide), VT_ne m d Tb _ (by decide),
    held_congr (SparseCore.T d) (S := Pipeline.ucRefs τ sig \ S4) (V := VT m d Tb) (V' := VA m d) fun b hb => VT_ne m d Tb b fun h =>
      (Finset.mem_sdiff.mp hb).2 (h ▸ by decide)]
  exact .rfl

/-- What is held before the gather's call, out of the unscoped buffers; the rest is let go. -/
theorem held_call (d : Dev nD) (Tb : Buf (Elt F) (tLoc d)) :
    (held (SparseCore.T d) (Pipeline.ucRefs τ sig) (after opsB (VT m d Tb)) : sProp 𝕄)
      ⊢ iprop((xLoc d ↦{fullShare} m (xLoc d)) ∗ ((SparseCore.T d).loc main_arg1 ↦{fullShare} m ((SparseCore.T d).loc main_arg1))
          ∗ ((SparseCore.T d).loc main_arg2 ↦{fullShare} m ((SparseCore.T d).loc main_arg2)) ∗ ((SparseCore.T d).loc main_arg3 ↦{fullShare} m ((SparseCore.T d).loc main_arg3))
          ∗ (tLoc d ↦{fullShare} Tb) ∗ (pLoc d ↦{fullShare} VB m d Tb (rb main_v5)) ∗ (oLoc d ↦{fullShare} VB m d Tb (rb main_v6))
          ∗ rLoc d ↦{fullShare} VB m d Tb (rb main_v7)) := by
  show held (SparseCore.T d) (Pipeline.ucRefs τ sig) (VB m d Tb) ⊢ _
  rw [held_sub_split (SparseCore.T d) S8_sub (VB m d Tb), held_S8, VB_arg0, VB_arg1, VB_arg2, VB_arg3, VB_v4]
  exact sep_elim_left

/-- The slice's two arrays, the gathered one at `f`. -/
def VC (d : Dev nD) (f : Buf (Elt F) (oLoc d)) (g : Buf (Elt F) (rLoc d)) : Valuation τ sig (Elt F) :=
  Function.update (Function.update (V0 m d) (rb main_v6) f) (rb main_v7) g

theorem held_VC (d : Dev nD) (f : Buf (Elt F) (oLoc d)) (g : Buf (Elt F) (rLoc d)) :
    iprop((oLoc d ↦{fullShare} f) ∗ rLoc d ↦{fullShare} g) ⊢ (held (SparseCore.T d) S2 (VC m d f g) : sProp 𝕄) := by
  rw [held_S2]; unfold VC
  rw [Function.update_self, Function.update_of_ne (show rb main_v6 ≠ rb main_v7 by decide), Function.update_self]

theorem held_slice (d : Dev nD) (f : Buf (Elt F) (oLoc d)) (g : Buf (Elt F) (rLoc d)) :
    (held (SparseCore.T d) S2 ((opC (F := F)).result (VC m d f g)) : sProp 𝕄)
      ⊢ rLoc d ↦{fullShare} (sl (F := F) d f : Buf (Elt F) (rLoc d)) := by
  rw [held_S2, show (opC (F := F)).result (VC m d f g) (rb main_v7) = sl (F := F) d f from
    (unary_result _ _ _ _ _ _).trans (by
      unfold VC; rw [Function.update_of_ne (show rb main_v6 ≠ rb main_v7 by decide), Function.update_self])]
  exact sep_elim_right

/-- The region's four arrays out of the unscoped buffers, the rest beside them. -/
theorem held_region (d : Dev nD) :
    (held (SparseCore.T d) (Pipeline.ucRefs τ sig) (after opsA (V0 m d)) : sProp 𝕄)
      ⊢ iprop(arrs (VA m) d (VA m d (rb main_v4)) ∗ held (SparseCore.T d) (Pipeline.ucRefs τ sig \ S4) (VA m d)) := by
  show held (SparseCore.T d) (Pipeline.ucRefs τ sig) (VA m d) ⊢ _
  rw [held_sub_split (SparseCore.T d) S4_sub (VA m d), held_S4]
  exact .rfl

/-- What the TensorCore owes the SparseCores from the launch on, as the region's data take it. -/
abbrev O₀ (d : Dev nD) : CellTallies nD τ sig (HIx 1) := (K (F := F)).Otc d 0

/-- The TensorCore's state before the call: what it owes, beside its position and its tokens. -/
theorem tcSt_debts (d : Dev nD) : ∃ R : sProp 𝕄, (K (F := F)).tcSt EH d 0 = iprop(debts (O₀ (F := F)) d ∗ R) := ⟨_, rfl⟩

/-- @main on device `d`: the arguments end as they began and the result is the slice of an array whose every entry is
    the named row's of a projected table. -/
theorem hmain [∀ e, Nonempty (Elt F e)] (κ : GSem nD τ sig → ℕ) (d : Dev nD) :
    iprop((K (F := F)).ctx EH (P m (TP m)) κ ∗ (K (F := F)).tcSt EH d 0 ∗ (K (F := F)).tcRes m ρ d ∗ regionGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_debts (F := F) d
  unfold SparseCore.Cfg.tcRes SparseCore.Cfg.tcEnd
  rw [launch_held, main_eq, hR]
  iintro ⟨#Hctx, ⟨HO, HR⟩, ⟨Hb, Hheld, Hts, -⟩, HG⟩
  ihave #Hlev := ((K (F := F)).ctx_levAts κ) $$ Hctx
  -- the operations before the projection
  iapply (wp_seq 𝒱 none Set.univ d (Pipeline.ucRefs τ sig) _ opsA opsA_sub opsA_fresh (V0 m d)) $$ [Hb Hheld]
  · isplitl [Hb] <;> iassumption
  iintro ⟨Hb, Hheld⟩
  ihave H := (held_region m d) $$ Hheld
  icases H with ⟨Harr, Hrest⟩
  -- the projection
  rw [wp_bind]
  iapply (wp_region (VA m) (O₀ (F := F)) owe_none d _) $$ [Hb Harr HO HG HR Hrest Hts]
  isplitr [Hb Harr HO HG]
  rotate_left
  · isplitl [Hb]; · iexact Hb
    isplitl [Harr HO]
    · isplitl [Harr]; · iexact Harr
      iexact HO
    isplitr; · iexact Hlev
    iexact HG
  iintro ⟨Hb, ⟨%Tb, %hT, Harr⟩, HO⟩
  ihave Hheld := (held_back m d Tb) $$ [Harr Hrest]
  · isplitl [Harr] <;> iassumption
  -- the padded index array
  iapply (wp_seq 𝒱 none Set.univ d (Pipeline.ucRefs τ sig) _ opsB opsB_sub opsB_fresh (VT m d Tb)) $$ [Hb Hheld]
  · isplitl [Hb] <;> iassumption
  iintro ⟨Hb, Hheld⟩
  ihave H := (held_call m d Tb) $$ Hheld
  icases H with ⟨Hx, H1, H2, H3, Ht, Hp, Ho, H7⟩
  -- the gather
  rw [wp_bind]
  iapply ((K (F := F)).wp_run (D (F := F)) 𝒱 (EH := EH) (P := P m (TP m)) κ d 0) $$ [Hb HO HR Hx H1 H2 H3 Ht Hp Ho H7 Hts]
  isplitr; · iexact Hctx
  isplitl [HO HR]
  · iapply (BIBase.Entails.of_eq hR.symm)
    isplitl [HO] <;> iassumption
  isplitl [Ht Hp Ho]
  · iapply (st_split m (TP m) d Tb _ hT (VB_PadOK m d Tb) _)
    isplitl [Ht]; · iexact Ht
    isplitl [Hp]; · iexact Hp
    iexact Ho
  iintro ⟨Hst, Hdn⟩
  ihave H := (dn_join m (TP m) d) $$ Hdn
  icases H with ⟨%f, %hf, Ho⟩
  -- the slice
  iapply (wp_hlo_within 𝒱 (SparseCore.T d) none Set.univ (op := opC) (S := S2) opC_sub (V := VC m d f (VB m d Tb (rb main_v7)))) $$ [Hb Ho H7]
  · isplitl [Hb]; · iexact Hb
    iapply (held_VC m d f (VB m d Tb (rb main_v7)))
    isplitl [Ho] <;> iassumption
  iintro ⟨Hb, Hheld⟩
  rw [wp_ret]; imodintro
  isplitl [Hst]; · iexact Hst
  isplitr [Hb Hts]
  · unfold FIN
    isplitl [Hx]; · iexact Hx
    isplitl [H1]; · iexact H1
    isplitl [H2]; · iexact H2
    isplitl [H3]; · iexact H3
    iexists f
    isplitr; · ipureintro; exact hf
    iapply (held_slice m d f (VB m d Tb (rb main_v7)))
    iexact Hheld
  isplitl [Hb] <;> iassumption

/-! ## The launch -/

/-- The launch's ghost state: the calls' rounds, the projection's pipeline's. -/
def u₀ : UU :=
  (initOf (K (F := F)).hsCells (K (F := F)).hsToks,
    initOf (Pipeline.cells (Pipeline.pin (pcfgs (F := F)) adm) cellOf_inj) (Pipeline.launchToks (Pipeline.pin (pcfgs (F := F)) adm) cellOf_inj), 1)

/-- A pair of the two ghost states, owned, is each owned at its place. -/
theorem own_halves (a : UH) (b : UP) : (ownU ((a, b, 1) : UU) : sProp 𝕄) ⊢ iprop(BI.own (EH a) ∗ BI.own (EP b)) :=
  BI.own_op_elim ((uEmb (nD := nD) (τ := τ) (sig := sig) (Ix := HIx 1) (Val := Elt F) (Name := ℕ) (U := UU) (Lvl := ℕ)).toEmb.op_of_mem
    (Prod.mk_mem_op (URA.mem_op_one a) (URA.mem_one_op (b, (1 : Counters)))))

/-- One pipeline's share is the family's. -/
theorem one_pipe (Φ : Fin 1 → sProp 𝕄) : Φ 0 = bigSep Finset.univ Φ := (bigSep_univ_of_subsingleton (0 : Fin 1)).symm

/-- Nothing, many times over. -/
theorem each_emp {I : Type} (s : Finset I) : (bigSep s fun _ => iprop(emp)) = (iprop(emp) : sProp 𝕄) := bigSep_emp_const s

/-- The launch's ghost state is the calls' rounds and each device's region's. -/
theorem hu₀ : (ownU (u₀ (F := F)) : sProp 𝕄)
    ⊢ |={Set.univ}=> iprop(BI.own (EH (initOf (K (F := F)).hsCells (K (F := F)).hsToks)) ∗ (bigSep Finset.univ fun d : Dev nD => regionGhost (F := F) d)
        ∗ bigSep Finset.univ fun thr : Thread nD τ => bigSep Finset.univ fun q : Fin 1 => (P m (TP m)).x q thr) := by
  unfold u₀
  iintro Hu
  ihave H := (own_halves (F := F) _ _) $$ Hu
  icases H with ⟨HH, HP⟩
  imod (Pipeline.fund_ghost (Pipeline.pin (pcfgs (F := F)) adm) (EP (F := F)) cellOf_inj) $$ HP with ⟨Hc, Ht⟩
  imodintro
  isplitl [HH]; · iexact HH
  isplitl [Hc Ht]
  · rw [bigSep_sep',
      show (bigSep Finset.univ fun c : Dev nD => Pipeline.cellsGhost (Pipeline.pin (pcfgs (F := F)) adm) (EP (F := F)) 0 c)
        = bigSep Finset.univ fun c : Dev nD => bigSep Finset.univ fun p => Pipeline.cellsGhost (Pipeline.pin (pcfgs (F := F)) adm) (EP (F := F)) p c from
        bigSep_congr fun c _ => one_pipe fun p => Pipeline.cellsGhost (Pipeline.pin (pcfgs (F := F)) adm) (EP (F := F)) p c,
      show (bigSep Finset.univ fun c : Dev nD => Pipeline.toksInit (Pipeline.pin (pcfgs (F := F)) adm) (EP (F := F)) 0 c)
        = bigSep Finset.univ fun c : Dev nD => bigSep Finset.univ fun p => Pipeline.toksInit (Pipeline.pin (pcfgs (F := F)) adm) (EP (F := F)) p c from
        bigSep_congr fun c _ => one_pipe fun p => Pipeline.toksInit (Pipeline.pin (pcfgs (F := F)) adm) (EP (F := F)) p c]
    isplitl [Hc] <;> iassumption
  rw [show (bigSep Finset.univ fun thr : Thread nD τ => bigSep Finset.univ fun q : Fin 1 => (P (F := F) m (TP m)).x q thr) = bigSep Finset.univ fun _ => iprop(emp) from
    bigSep_congr fun _ _ => bigSep_univ_of_subsingleton (0 : Fin 1), each_emp]
  iempintro

/-- What the claims read of device `d`'s final state. -/
def fq (d : Dev nD) (s' : MemSt nD τ sig (Elt F)) : Prop :=
  s'.mem (xLoc d) = m (xLoc d) ∧ s'.mem ((SparseCore.T d).loc main_arg1) = m ((SparseCore.T d).loc main_arg1)
    ∧ s'.mem ((SparseCore.T d).loc main_arg2) = m ((SparseCore.T d).loc main_arg2)
    ∧ s'.mem ((SparseCore.T d).loc main_arg3) = m ((SparseCore.T d).loc main_arg3)
    ∧ ∃ f, (∀ j, OutOK m (TP m) d f j) ∧ s'.mem (rLoc d) = (sl (F := F) d f : Buf (Elt F) (rLoc d))

/-- An array owned whole is what the memory holds. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'.mem⌝ : sProp 𝕄) := by
  unfold FIN
  iintro ⟨⟨Hx, H1, H2, H3, %f, %hf, H7⟩, HSI⟩
  ihave H := (agree s' _ _) $$ [Hx HSI]
  · isplitl [Hx] <;> iassumption
  icases H with ⟨%h0, HSI⟩
  ihave H := (agree s' _ _) $$ [H1 HSI]
  · isplitl [H1] <;> iassumption
  icases H with ⟨%h1, HSI⟩
  ihave H := (agree s' _ _) $$ [H2 HSI]
  · isplitl [H2] <;> iassumption
  icases H with ⟨%h2, HSI⟩
  ihave H := (agree s' _ _) $$ [H3 HSI]
  · isplitl [H3] <;> iassumption
  icases H with ⟨%h3, HSI⟩
  ihave H := (agree s' _ _) $$ [H7 HSI]
  · isplitl [H7] <;> iassumption
  icases H with ⟨%h7, -⟩
  ipureintro; exact ⟨h0, h1, h2, h3, f, hf, h7⟩

/-- Every run of the program, its indices in range, ends with the arguments as they began, the result the slice of an
    array whose every entry is the named row's of a projected table, and every semaphore at zero. -/
theorem run_main [∀ e, Nonempty (Elt F e)] (hpre : PreOK m) :
    θ_run (Cert.KernelIdeal.defs (F := F)) (Cert.KernelIdeal.threads (F := F)) ⟨m, fun _ => 0, ρ⟩
      fun r => (∀ d, fq m d r.2) ∧ r.2.sem = fun _ => 0 :=
  SparseCore.Cfg.θ_run_sc_quiescent (K := K (F := F)) (D := D (F := F)) (𝒱 := 𝒱) (EH := EH) (P := P m (TP m)) (A := ∅) facts v₀
    (fun q hq => match q with | 0 => nomatch hq)
    (fun q _ => match q with | 0 => tileObl m (TP m) facts hpre)
    (fun q _ => match q with | 0 => SparseCore.Cfg.VecSplit.of_plain (vecSplit m (TP m)))
    m ρ main (fun d => regionGhost (F := F) d) (FIN m) (u₀ (F := F)) (sep_elim_left.trans (hu₀ m)) (hmain m ρ) (fun d s' => fq m d s'.mem) (hfin m)
    _ (fun _ h hz => ⟨h, hz⟩)

end Cert.Proof.K

end
-- ==== Proof.Value.lean ====
/-
  What the kernel's result holds at the ideal floats: at sentence `i`, position `j` and output column `e`, the inner
  product of the table's row the index names with column `e` of the weights, plus the bias at `e`.
-/
module

public import proofs.«01_k».proof.Proof.Main
public import Idealize.ShloMosaic.Lib.Pointwise
public import Idealize.ShloMosaic.Lib.Pointwise.IndexBridge
public import Idealize.ShloMosaic.Lib.KernelVsHost

@[expose] public section

set_option maxRecDepth 16384

noncomputable section

namespace Cert.Proof.K

open Cert.KernelIdeal Cert.KernelIdeal.Gen

open Idealize.ShloMosaic
open Idealize.ShloMosaic.TcCoe
open Idealize.ShloMosaic.StableHlo
open scoped BigOperators

/-- The projection of the looked-up rows: `out(i, j, e) = Σ_k table(x(i, j), k) · W(k, e) + b(e)`. -/
def spec (x : S4096x50.Idx → BitVec 32) (tab : S100000x64.Idx → EReal) (w : S64x50.Idx → EReal) (b : S50.Idx → EReal)
    (j : S4096x50x50.Idx) : EReal :=
  (∑ k : Fin 64, tab (ix2 (Fin.ofNat 100000 (x (ix2 (j 0) (j 1))).toNat) k) * w (ix2 k (j 2))) + b (ix1 (j 2))

/-- At every grid point the transfer of the table's block moves all 64 rows, and the columns that lie in the array. -/
theorem moved_sizes : ∀ t : Fin grid0.N, (win0_0.xsize (grid0.coords t) 0 = 64)
    ∧ (win0_0.xsize (grid0.coords t) 1 = min 12800 (100000 - t.val * 12800)) ∧ (win0_0.index t 0 = 0) ∧ (win0_0.index t 1 = t.val) := by
  decide +kernel

/-- A block moved in from the transposed table holds, at a column that lies in the array, that column. -/
theorem fill_tab (W : Dev nD → Valuation τ sig (Elt Ideal)) (c : Dev nD) (t : Fin cfg0.N) (d : S64x12800.Idx → EReal)
    (k : Fin 64) (q : Fin 12800) (r : Fin 100000) (h : r.val = t.val * 12800 + q.val) :
    win0_0.fill (grid0.coords t) d (tBlk (F := Ideal) W c t) (ix2 k q) = (tabT (F := Ideal) W c : S64x100000.Idx → EReal) (ix2 k r) := by
  obtain ⟨s0, s1, i0, i1⟩ := moved_sizes t
  have hm : win0_0.moved (grid0.coords t) (ix2 k q) = true := (win0_0.moved_iff _ _).mpr fun a => by
    fin_cases a
    · exact lt_of_lt_of_eq k.isLt s0.symm
    · refine lt_of_lt_of_eq ?_ s1.symm
      show q.val < _
      have := r.isLt
      have := q.isLt
      omega
  unfold Pipeline.Window.fill
  rw [dif_pos hm]
  unfold tBlk
  rw [View.read_apply]
  refine (cast_eq _ _).trans (congrArg (tabT (F := Ideal) W c) (funext fun a => Fin.ext ?_))
  fin_cases a
  · refine (Pipeline.Window.rect_emb_val win0_0 t _ 0).trans ?_
    rw [i0]; show 0 * _ + k.val = k.val; omega
  · refine (Pipeline.Window.rect_emb_val win0_0 t _ 1).trans ?_
    rw [i1]; exact h.symm

/-- The projection's product at a row and a column. -/
theorem pay_apply (v0 : S64x12800.Idx → EReal) (v2 : S64x128.Idx → EReal) (v5 : S1x128.Idx → EReal) (q : Fin 12800) (e : Fin 128) :
    k0_pay1 (F := Ideal) v0 v2 v5 (ix2 q e) = (∑ k : Fin 64, v0 (ix2 k q) * v2 (ix2 k e)) + v5 (ix2 0 e) := by
  unfold k0_pay1
  simp only [pointwise]
  rw [zero_add]
  rfl

/-- The table a launch's memory holds. -/
abbrev aTab (m : (ℓ : Loc nD τ sig) → Buf (Elt Ideal) ℓ) (d : Dev nD) : S100000x64.Idx → EReal := m ((SparseCore.T d).loc main_arg1)
/-- The weights a launch's memory holds. -/
abbrev aW (m : (ℓ : Loc nD τ sig) → Buf (Elt Ideal) ℓ) (d : Dev nD) : S64x50.Idx → EReal := m ((SparseCore.T d).loc main_arg2)
/-- The bias a launch's memory holds. -/
abbrev aB (m : (ℓ : Loc nD τ sig) → Buf (Elt Ideal) ℓ) (d : Dev nD) : S50.Idx → EReal := m ((SparseCore.T d).loc main_arg3)

/-- The padded weights at a column of the weights. -/
theorem wPad_apply (m : (ℓ : Loc nD τ sig) → Buf (Elt Ideal) ℓ) (d : Dev nD) (k : Fin 64) (e : Fin 128) (e' : Fin 50) (h : e.val = e'.val) :
    (wPad (F := Ideal) (VA m) d : S64x128.Idx → EReal) (ix2 k e) = aW m d (ix2 k e') := by
  unfold wPad
  refine (congrFun (VA_v0 m d) _).trans ?_
  exact pad_apply_of_inside _ _ _ _ _ _ _ _ _ fun
    | 0 => by show k.val = 0 + k.val * 1; omega
    | 1 => by show e.val = 0 + e'.val * 1; omega

/-- A vector read as a one-row matrix. -/
theorem row_apply (z : S128.Idx → EReal) (e : Fin 128) : shapeCast S1x128 z shapeCasts_S128_S1x128 (ix2 0 e) = z (ix1 e) := by
  simp only [pointwise]

/-- The padded bias at a column of the bias. -/
theorem bPad_apply (m : (ℓ : Loc nD τ sig) → Buf (Elt Ideal) ℓ) (d : Dev nD) (e : Fin 128) (e' : Fin 50) (h : e.val = e'.val) :
    (bPad (F := Ideal) (VA m) d : S1x128.Idx → EReal) (ix2 0 e) = aB m d (ix1 e') := by
  unfold bPad
  refine (congrFun (VA_v2 m d) _).trans ?_
  refine (row_apply _ e).trans ?_
  refine pad_apply_of_inside (s := S50) _ _ _ _ _ _ _ _ (ix1 e') fun a => ?_
  obtain rfl : a = 0 := Subsingleton.elim _ _
  show e.val = 0 + e'.val * 1
  omega

/-- The transposed table at a row of the table. -/
theorem tabT_apply (m : (ℓ : Loc nD τ sig) → Buf (Elt Ideal) ℓ) (d : Dev nD) (k : Fin 64) (r : Fin 100000) :
    (tabT (F := Ideal) (VA m) d : S64x100000.Idx → EReal) (ix2 k r) = aTab m d (ix2 r k) := by
  unfold tabT
  refine (congrFun (VA_v3 m d) _).trans ?_
  simp only [pointwise]

/-- A projected table holds, at a row and a column of the weights, the row's inner product with that column plus the bias. -/
theorem proj_apply (m : (ℓ : Loc nD τ sig) → Buf (Elt Ideal) ℓ) (d : Dev nD) (T : Buf (Elt Ideal) (tLoc d)) (hT : TabOK (F := Ideal) (VA m) d T)
    (r : Fin 100000) (e : Fin 128) (e' : Fin 50) (h : e.val = e'.val) :
    (T : S100000x128.Idx → EReal) (ix2 r e)
      = (∑ k : Fin 64, aTab m d (ix2 r k)
          * aW m d (ix2 k e')) + aB m d (ix1 e') := by
  obtain ⟨x, hx⟩ := hT (ix2 r e)
  refine hx.trans ?_
  unfold pBlk
  refine (congrArg _ (ix2_eq_valueIdx (n0 := 12800) (n1 := 128) ⟨r.val % 12800, Nat.mod_lt _ (by decide)⟩ e).symm).trans ?_
  refine (pay_apply _ _ _ ⟨r.val % 12800, Nat.mod_lt _ (by decide)⟩ e).trans ?_
  refine congr (congrArg (fun a b : EReal => a + b) (Finset.sum_congr rfl fun k _ => ?_)) (bPad_apply m d e e' h)
  refine congr (congrArg (fun a b : EReal => a * b) ?_) (wPad_apply m d k e e' h)
  refine (fill_tab _ d _ x k _ r ?_).trans (tabT_apply m d k r)
  show r.val = r.val / 12800 * 12800 + r.val % 12800
  omega

/-- The kernel's result is the projection of the looked-up rows. -/
theorem result_eq (m : (ℓ : Loc nD τ sig) → Buf (Elt Ideal) ℓ) (d : Dev nD) (f : S4096x50x128.Idx → EReal)
    (hf : ∀ j, OutOK m (TP m) d f j) :
    sl (F := Ideal) d f = spec (m ((SparseCore.T d).loc main_arg0)) (m ((SparseCore.T d).loc main_arg1)) (m ((SparseCore.T d).loc main_arg2))
      (m ((SparseCore.T d).loc main_arg3)) := by
  funext j
  unfold sl
  refine (extractStridedSlice_apply _ f _ j (ix3 (j 0) (j 1) ⟨(j 2).val, Nat.lt_of_lt_of_le (j 2).isLt (by decide)⟩) fun a => by
    fin_cases a <;> exact (Nat.zero_add _).symm).trans ?_
  obtain ⟨T, hT, he⟩ := hf (ix3 (j 0) (j 1) ⟨(j 2).val, Nat.lt_of_lt_of_le (j 2).isLt (by decide)⟩)
  refine he.trans ?_
  unfold at2
  refine (congrArg (T : S100000x128.Idx → EReal) (ix2_eq_valueIdx (n0 := 100000) (n1 := 128) _ _).symm).trans ?_
  refine (proj_apply m d T hT _ _ (j 2) rfl).trans ?_
  unfold spec
  refine congrArg (fun v : S4096x50.Idx => (∑ k : Fin 64, aTab m d (ix2 (Fin.ofNat 100000 (m (xLoc d) v).toNat) k) * aW m d (ix2 k (j 2))) + aB m d (ix1 (j 2)))
    (ix2_eq_valueIdx (n0 := 4096) (n1 := 50) (j 0) (j 1)).symm

end Cert.Proof.K

end
-- ==== Proof.RefValue.lean ====
/-
  What the reference's result holds at the ideal floats, where every index names a row of the table: the projection of
  the looked-up rows.
-/
module

public import proofs.«01_k».proof.Proof.Gen.ReferenceIdeal.Run
public import proofs.«01_k».proof.Proof.Value
public import Idealize.ShloMosaic.Lib.ReduceAll
public import Idealize.ShloMosaic.Lib.Quiescent

@[expose] public section

set_option maxRecDepth 16384

noncomputable section

namespace Cert.Proof.R

open Cert.ReferenceIdeal Cert.ReferenceIdeal.Gen

open Idealize.ShloMosaic Idealize.SL.Sem
open scoped BigOperators

/-- The indices as the lookup takes them: a negative one counted from the table's end. -/
abbrev wrapped (x : S4096x50.Idx → BitVec 32) : S4096x50.Idx → BitVec 32 :=
  select (cmpi .slt x (broadcastInDim S4096x50 ![] bcast_S_S4096x50 (constantI S_ 32 0#32)))
    (addi x (broadcastInDim S4096x50 ![] bcast_S_S4096x50 (constantI S_ 32 100000#32))) x

/-- A natural number below 100000 is not negative as a signed word. -/
theorem toInt_small {w : BitVec 32} (h : w.toNat < 100000) : w.toInt = (w.toNat : ℤ) := by
  rw [BitVec.toInt_eq_toNat_cond, if_pos (by omega)]

/-- An index that names a row is left as it is. -/
theorem wrapped_eq {x : S4096x50.Idx → BitVec 32} (h : ∀ j, (x j).toNat < 100000) : wrapped x = x := by
  funext j
  have e : IntOp.cmpi .slt (x j) 0#32 = 0#1 := by
    have := toInt_small (h j)
    simp only [IntOp.cmpi, BitVec.slt_eq_decide, this]
    rw [decide_eq_false (by simp)]
    rfl
  show (if IntOp.cmpi .slt (x j) 0#32 = 1#1 then _ else x j) = x j
  rw [if_neg (by rw [e]; decide)]

/-- The gather's dimension numbers. -/
abbrev G : GatherDims S100000x64 S4096x50x1 S4096x50x64 := gather_S100000x64_S4096x50x1_S4096x50x64_2_0_n_n_0_2_164

/-- The gather at sentence `i`, position `p`, column `k`: the table's row the index names, at that column. -/
theorem gather_at (tab : S100000x64.Idx → EReal) (y : S4096x50x1.Idx → BitVec 32) (i : Fin 4096) (p : Fin 50) (k : Fin 64)
    (h : (y (ix3 i p 0)).toNat < 100000) :
    Host.gather G tab y (ix3 i p k) = tab (ix2 (Fin.ofNat 100000 (y (ix3 i p 0)).toNat) k) := by
  unfold Host.gather
  refine congrArg tab (funext fun a => Fin.ext ?_)
  show G.start (ix3 i p k) y a + G.batchCoord (ix3 i p k) a + G.offCoord (ix3 i p k) a = _
  rw [GatherDims.batchCoord_eq_zero _ _ _ List.not_mem_nil, Nat.add_zero]
  obtain rfl | rfl : a = (0 : Fin 2) ∨ a = (1 : Fin 2) := by
    match a with
    | ⟨0, _⟩ => exact .inl rfl
    | ⟨1, _⟩ => exact .inr rfl
  · have m0 : (0 : Fin 2) ∈ G.startIndexMap := List.mem_singleton.mpr rfl
    have hs : G.siIdx (ix3 i p k) ⟨List.idxOf (0 : Fin 2) G.startIndexMap, List.idxOf_lt_length_iff.2 m0⟩ = ix3 i p 0 := by
      funext b
      match b with
      | ⟨0, _⟩ => rfl
      | ⟨1, _⟩ => rfl
      | ⟨2, _⟩ => rfl
    rw [GatherDims.offCoord_eq_zero _ _ _ (fun h => ((GatherDims.mem_sKept _ _).mp h).1 (List.mem_singleton.mpr rfl)), Nat.add_zero]
    unfold GatherDims.start
    rw [dif_pos m0, hs, toInt_small h]
    show min (y (ix3 i p 0)).toNat 99999 = (y (ix3 i p 0)).toNat % 100000
    rw [Nat.mod_eq_of_lt h]
    omega
  · have m1 : (1 : Fin 2) ∉ G.startIndexMap := fun h => absurd (List.mem_singleton.mp h) (by decide)
    have k1 : (1 : Fin 2) ∈ G.sKept := (GatherDims.mem_sKept _ _).mpr
      ⟨fun h => absurd (List.mem_singleton.mp h) (by decide), List.not_mem_nil⟩
    unfold GatherDims.start GatherDims.offCoord
    rw [dif_neg m1, dif_pos k1, Nat.zero_add]
    rfl

/-- The mask of the rows that exist is true everywhere. -/
theorem mask_true {x : S4096x50.Idx → BitVec 32} (h : ∀ j, (x j).toNat < 100000) (j : S4096x50.Idx) :
    Host.reduce IntOp.andi (andi (cmpi .sge (broadcastInDim S4096x50x1 ![0, 1] bcast_S4096x50_S4096x50x1_0_1 x)
        (broadcastInDim S4096x50x1 ![] bcast_S_S4096x50x1 (constantI S_ 32 0#32)))
      (cmpi .sle (broadcastInDim S4096x50x1 ![0, 1] bcast_S4096x50_S4096x50x1_0_1 x)
        (broadcastInDim S4096x50x1 ![0, 1, 2] bcast_S1x1x1_S4096x50x1_0_1_2 (broadcastInDim S1x1x1 ![2] bcast_S1_S1x1x1_2 (constantI S1 32 99999#32)))))
      (constantI S_ 1 1#1) reducesTo_S4096x50x1_S4096x50_d2 h_S_ j = 1#1 := by
  refine Host.reduce_andi_one _ _ _ _ _ rfl fun i => ?_
  have hw : ∀ w : BitVec 32, w.toNat < 100000 → IntOp.andi (IntOp.cmpi .sge w 0#32) (IntOp.cmpi .sle w 99999#32) = 1#1 := fun w hw => by
    have := toInt_small hw
    have e0 : (0#32).sle w = true := by
      rw [BitVec.sle_eq_decide, this]; simp
    have e1 : w.sle 99999#32 = true := by
      rw [BitVec.sle_eq_decide, this, decide_eq_true_eq]
      show (w.toNat : ℤ) ≤ 99999
      omega
    simp only [IntOp.cmpi, e0, e1]
    decide
  exact hw _ (h _)

/-- A contraction of the last axis of the looked-up rows with the weights, at an index. -/
theorem dot_at (l : S4096x50x64.Idx → EReal) (w : S64x50.Idx → EReal) (i : Fin 4096) (p : Fin 50) (e : Fin 50) :
    Host.dotGeneral (F := Ideal) dot_S4096x50x64_S64x50_S4096x50x50_2_0_01_1_n_n none (φ₁ := .f32) (φ₂ := .f32) l w (ix3 i p e)
      = ∑ k : Fin 64, l (ix3 i p k) * w (ix2 k e) := by
  simp only [pointwise]
  rw [zero_add]

/-- The bias spread over sentences and positions, at an index. -/
theorem bias_at (b : S50.Idx → EReal) (i : Fin 4096) (p : Fin 50) (e : Fin 50) :
    broadcastInDim S4096x50x50 ![0, 1, 2] bcast_S1x1x50_S4096x50x50_0_1_2 (broadcastInDim S1x1x50 ![2] bcast_S50_S1x1x50_2 b) (ix3 i p e)
      = b (ix1 e) := by
  simp only [pointwise]
  rfl

/-- Where a condition spread over the columns is true everywhere, the selection takes its first operand. -/
theorem select_at (c : S4096x50.Idx → BitVec 1) (A B : S4096x50x64.Idx → EReal) (hc : ∀ j, c j = 1#1) (j : S4096x50x64.Idx) :
    select (broadcastInDim S4096x50x64 ![0, 1] bcast_S4096x50_S4096x50x64_0_1 c) A B j = A j :=
  if_pos (hc _)

/-- The reference's result, from its arguments. -/
def out (x : S4096x50.Idx → BitVec 32) (tab : S100000x64.Idx → EReal) (w : S64x50.Idx → EReal) (b : S50.Idx → EReal) :
    S4096x50x50.Idx → EReal :=
  addf (F := Ideal) (φ := .f32) (Host.dotGeneral (F := Ideal) (φ₁ := .f32) (φ₂ := .f32) dot_S4096x50x64_S64x50_S4096x50x50_2_0_01_1_n_n none (select (broadcastInDim S4096x50x64 ![0, 1] bcast_S4096x50_S4096x50x64_0_1 (Host.reduce IntOp.andi (andi (cmpi .sge (broadcastInDim S4096x50x1 ![0, 1] bcast_S4096x50_S4096x50x1_0_1 (wrapped x)) (broadcastInDim S4096x50x1 ![] bcast_S_S4096x50x1 (constantI S_ 32 0#32))) (cmpi .sle (broadcastInDim S4096x50x1 ![0, 1] bcast_S4096x50_S4096x50x1_0_1 (wrapped x)) (broadcastInDim S4096x50x1 ![0, 1, 2] bcast_S1x1x1_S4096x50x1_0_1_2 (broadcastInDim S1x1x1 ![2] bcast_S1_S1x1x1_2 (constantI S1 32 99999#32))))) (constantI S_ 1 1#1) reducesTo_S4096x50x1_S4096x50_d2 h_S_)) (Host.gather G tab (broadcastInDim S4096x50x1 ![0, 1] bcast_S4096x50_S4096x50x1_0_1 (wrapped x))) (broadcastInDim S4096x50x64 ![] bcast_S_S4096x50x64 (constant (F := Ideal) S_ .f32 0x7FC00000#32))) w) (broadcastInDim S4096x50x50 ![0, 1, 2] bcast_S1x1x50_S4096x50x50_0_1_2 (broadcastInDim S1x1x50 ![2] bcast_S50_S1x1x50_2 b))

/-- Where every index names a row, the reference's result is the projection of the looked-up rows. -/
theorem out_eq (x : S4096x50.Idx → BitVec 32) (tab : S100000x64.Idx → EReal) (w : S64x50.Idx → EReal) (b : S50.Idx → EReal)
    (h : ∀ j, (x j).toNat < 100000) : out x tab w b = Cert.Proof.K.spec x tab w b := by
  funext j
  obtain ⟨i, p, e, rfl⟩ : ∃ i p e, j = ix3 i p e := ⟨j 0, j 1, j 2, by
    funext a
    match a with
    | ⟨0, _⟩ => rfl
    | ⟨1, _⟩ => rfl
    | ⟨2, _⟩ => rfl⟩
  unfold out
  rw [wrapped_eq h]
  have hadd : ∀ A B : S4096x50x50.Idx → EReal, addf (F := Ideal) (φ := .f32) A B (ix3 i p e) = A (ix3 i p e) + B (ix3 i p e) := fun _ _ => rfl
  refine (hadd _ _).trans (congrArg₂ (fun a b : EReal => a + b) ((dot_at _ w i p e).trans (Finset.sum_congr rfl fun k _ => ?_)) (bias_at b i p e))
  refine congrArg (fun a : EReal => a * w (ix2 k e)) ?_
  have ey : broadcastInDim S4096x50x1 ![0, 1] bcast_S4096x50_S4096x50x1_0_1 x (ix3 i p 0) = x (ix2 i p) := by
    simp only [pointwise]
    rfl
  refine (select_at _ _ _ (mask_true h) _).trans ?_
  refine (gather_at tab _ i p k (by rw [ey]; exact h _)).trans ?_
  rw [ey]
  rfl

/-- The reference runs: its result is `out` of its arguments, its arguments stay, its counters end at zero. -/
theorem run_ref (m : (ℓ : Loc nD τ sig) → Buf (Elt Ideal) ℓ) (ρ : Dev nD → PrngReg) :
    θ_run defs (onTc (τ := τ) (main (F := Ideal))) ⟨m, fun _ => 0, ρ⟩ fun r => (∀ c : Dev nD,
      (r.2.mem ((c.tc : Thread nD τ).loc main_v4) : S4096x50x50.Idx → EReal) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨h, sem_eq_zero_of_no_sems (by decide) r.2⟩) (Cert.ReferenceIdeal.Value.run (F := Ideal) m ρ)

end Cert.Proof.R

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Words
public import proofs.«01_k».proof.Proof.Main
public import proofs.«01_k».proof.Proof.Value
public import proofs.«01_k».proof.Proof.RefValue

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts

section SameText
variable {F : FTy → Type} [FloatOps F]

/-- The kernels' bodies of the two programs are one table. -/
theorem defs₀_eq : Cert.Kernel.defs₀ (F := F) = Cert.KernelIdeal.defs₀ (F := F) := by
  funext p ℓ a
  match p, ℓ, a with
  | .tc, 0, (t, s) => rfl
  | .tc, 1, a => rfl
  | .scScalar _, 0, _ => rfl
  | .scScalar _, 1, _ => rfl
  | .scVector _ _, 0, _ => rfl
  | .scVector c s, 1, a => rfl

/-- So are their body tables with the launches' own bodies. -/
theorem defs_eq : Cert.Kernel.defs (F := F) = Cert.KernelIdeal.defs (F := F) :=
  congrArg (fun D => Cert.Kernel.sc.defs (Pipeline.defs Cert.Kernel.pcfgs D)) defs₀_eq

/-- Their threads are one program. -/
theorem threads_eq : Cert.Kernel.threads (F := F) = Cert.KernelIdeal.threads (F := F) := rfl

end SameText

/-- The kernel runs, changes no argument and leaves every counter at zero. -/
theorem frame_kernel : Cert.quiescent_Kernel := fun m ρ hpre => by
  rw [defs_eq]
  exact (θ_run (Cert.KernelIdeal.defs (F := Bits)) (Cert.KernelIdeal.threads (F := Bits)) ⟨m, fun _ => 0, ρ⟩).mono
    (fun _ h => ⟨fun c => ⟨(h.1 c).1, (h.1 c).2.1, (h.1 c).2.2.1, (h.1 c).2.2.2.1⟩, h.2⟩)
    (K.run_main (F := Bits) m ρ fun d j => K.words_ok (hpre d) j)

/-- So does its reading over the ideal floats. -/
theorem frame_kernelIdeal : Cert.quiescent_KernelIdeal := fun m ρ hpre =>
  (θ_run Cert.KernelIdeal.defs _ _).mono
    (fun _ h => ⟨fun c => ⟨(h.1 c).1, (h.1 c).2.1, (h.1 c).2.2.1, (h.1 c).2.2.2.1⟩, h.2⟩)
    (K.run_main (F := Ideal) m ρ fun d j => K.words_ok (hpre d) j)

/-- So does the reference, of any arguments. -/
theorem frame_reference : Cert.quiescent_ReferenceIdeal := fun m ρ _ =>
  (θ_run Cert.ReferenceIdeal.defs _ _).mono (fun _ h => ⟨fun c => (h.1 c).2, h.2⟩) (R.run_ref m ρ)

/-- So does the reference where the kernel's precondition holds. -/
theorem frame_reference_in_range : Cert.quiescent_ReferenceIdeal_pre_in_range := fun m ρ _ => frame_reference m ρ trivial

/-- Over the ideal floats and from equal arguments the kernel and the reference end with equal results. -/
theorem same_result : Cert.algebraic_KernelIdeal_ReferenceIdeal := fun m ρ m' ρ' hpre he => by
  have hw : K.PreOK (F := Ideal) m := fun d j => K.words_ok (hpre d) j
  refine ⟨fun c => K.spec (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun _ h c => ?_) (K.run_main (F := Ideal) m ρ hw)
    obtain ⟨f, hf, hr⟩ := (h.1 c).2.2.2.2
    exact ⟨hr.trans (K.result_eq m c f hf), (h.1 c).1, (h.1 c).2.1, (h.1 c).2.2.1, (h.1 c).2.2.2.1⟩
  · refine (θ_run Cert.ReferenceIdeal.defs _ _).mono (fun _ h c => ⟨(h.1 c).1.trans ?_, (h.1 c).2⟩) (R.run_ref m' ρ')
    obtain ⟨e0, e1, e2, e3⟩ := he c
    rw [e0, e1, e2, e3]
    exact R.out_eq _ _ _ _ (hw c)

/-- Every claim. -/
theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_in_range, trivial, same_result⟩

end Cert.Proof

end
